-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_centres_in_unit_square [hPre_centres_in_unit_square : Cert.Pre_centres_in_unit_square.Facts] (m : (ℓ : Loc Cert.KernelIdeal.nD Cert.KernelIdeal.τ Cert.KernelIdeal.sig) → Buf (Elt Ideal) ℓ) : Prop :=
  ∀ c : Dev Cert.KernelIdeal.nD,
    (Cert.Pre_centres_in_unit_square.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_centres_in_unit_square [hPre_centres_in_unit_square : Cert.Pre_centres_in_unit_square.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_centres_in_unit_square.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_centres_in_unit_square [hKernelIdeal : Cert.KernelIdeal.Facts] [hPre_centres_in_unit_square : Cert.Pre_centres_in_unit_square.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_centres_in_unit_square m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_centres_in_unit_square [hReferenceIdeal : Cert.ReferenceIdeal.Facts] [hPre_centres_in_unit_square : Cert.Pre_centres_in_unit_square.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_centres_in_unit_square m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_centres_in_unit_square [hKernelIdeal : Cert.KernelIdeal.Facts] [hReferenceIdeal : Cert.ReferenceIdeal.Facts] [hPre_centres_in_unit_square : Cert.Pre_centres_in_unit_square.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_centres_in_unit_square m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v148) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_centres_in_unit_square : Cert.Pre_centres_in_unit_square.Facts),
    quiescent_Kernel (hKernel := hKernel)
    ∧ quiescent_KernelIdeal (hKernelIdeal := hKernelIdeal)
    ∧ quiescent_KernelIdeal_pre_centres_in_unit_square (hKernelIdeal := hKernelIdeal) (hPre_centres_in_unit_square := hPre_centres_in_unit_square)
    ∧ quiescent_ReferenceIdeal (hReferenceIdeal := hReferenceIdeal)
    ∧ quiescent_ReferenceIdeal_pre_centres_in_unit_square (hReferenceIdeal := hReferenceIdeal) (hPre_centres_in_unit_square := hPre_centres_in_unit_square)
    ∧ preserves_Kernel_KernelIdeal
    ∧ algebraic_KernelIdeal_ReferenceIdeal_pre_centres_in_unit_square (hKernelIdeal := hKernelIdeal) (hReferenceIdeal := hReferenceIdeal) (hPre_centres_in_unit_square := hPre_centres_in_unit_square)
-- ==== Pre_centres_in_unit_square.lean ====
abbrev S2x100000x4 : Shape := ⟨3, ![2, 100000, 4]⟩
abbrev S2x128x4 : Shape := ⟨3, ![2, 128, 4]⟩
abbrev S2x100000x2 : Shape := ⟨3, ![2, 100000, 2]⟩
abbrev S2x128x2 : Shape := ⟨3, ![2, 128, 2]⟩
abbrev S2x100128x2 : Shape := ⟨3, ![2, 100128, 2]⟩
abbrev S_ : Shape := ⟨0, ![]⟩
abbrev S2x200128x2 : Shape := ⟨3, ![2, 200128, 2]⟩

class Facts : Prop where
  slices_S2x100000x4_S2x100000x2_0_0_0 : S2x100000x4.Slices ![0, 0, 0] S2x100000x2
  slices_S2x128x4_S2x128x2_0_0_0 : S2x128x4.Slices ![0, 0, 0] S2x128x2
  concatenates_S2x100000x2_S2x128x2_S2x100128x2_d1 : Shape.Concatenates [S2x100000x2, S2x128x2] S2x100128x2 1
  slices_S2x100000x4_S2x100000x2_0_0_2 : S2x100000x4.Slices ![0, 0, 2] S2x100000x2
  bcast_S_S2x100128x2 : S_.BroadcastsInDim S2x100128x2 (![] : Fin 0 → Fin S2x100128x2.rank)
  bcast_S_S2x100000x2 : S_.BroadcastsInDim S2x100000x2 (![] : Fin 0 → Fin S2x100000x2.rank)
  concatenates_S2x100128x2_S2x100000x2_S2x200128x2_d1 : Shape.Concatenates [S2x100128x2, S2x100000x2] S2x200128x2 1

variable [Facts]

def fn {F : FTy → Type} [FloatOps F] (main_arg0 : FVec F S2x100000x4 .f32) (main_arg1 : FVec F S2x128x4 .f32) : IVec S2x200128x2 1 :=
  let main_v0 : FVec F S2x100000x2 .f32 := (extractStridedSlice S2x100000x2 ![0, 0, 0] · slices_S2x100000x4_S2x100000x2_0_0_0) main_arg0
  let main_v1 : FVec F S2x128x2 .f32 := (extractStridedSlice S2x128x2 ![0, 0, 0] · slices_S2x128x4_S2x128x2_0_0_0) main_arg1
  let main_v2 : FVec F S2x100128x2 .f32 := (fun a b => concatenate S2x100128x2 1 [⟨S2x100000x2, a⟩, ⟨S2x128x2, b⟩] concatenates_S2x100000x2_S2x128x2_S2x100128x2_d1) main_v0 main_v1
  let main_v3 : FVec F S2x100000x2 .f32 := (extractStridedSlice S2x100000x2 ![0, 0, 2] · slices_S2x100000x4_S2x100000x2_0_0_2) main_arg0
  let main_cst : FVec F S_ .f32 := constant S_ .f32 0x00000000#32
  let main_v4 : FVec F S2x100128x2 .f32 := broadcastInDim S2x100128x2 ![] bcast_S_S2x100128x2 main_cst
  let main_v5 : IVec S2x100128x2 1 := cmpf .oge main_v2 main_v4
  let main_cst_0 : FVec F S_ .f32 := constant S_ .f32 0x3F800000#32
  let main_v6 : FVec F S2x100128x2 .f32 := broadcastInDim S2x100128x2 ![] bcast_S_S2x100128x2 main_cst_0
  let main_v7 : IVec S2x100128x2 1 := cmpf .ole main_v2 main_v6
  let main_v8 : IVec S2x100128x2 1 := andi main_v5 main_v7
  let main_v9 : FVec F S2x100000x2 .f32 := Host.absf main_v3
  let main_cst_1 : FVec F S_ .f32 := constant S_ .f32 0x7F800000#32
  let main_v10 : FVec F S2x100000x2 .f32 := broadcastInDim S2x100000x2 ![] bcast_S_S2x100000x2 main_cst_1
  let main_v11 : IVec S2x100000x2 1 := cmpf .olt main_v9 main_v10
  let main_v12 : IVec S2x200128x2 1 := (fun a b => concatenate S2x200128x2 1 [⟨S2x100128x2, a⟩, ⟨S2x100000x2, b⟩] concatenates_S2x100128x2_S2x100000x2_S2x200128x2_d1) main_v8 main_v11
  main_v12
-- ==== Kernel.lean ====
abbrev S2x100000x4 : Shape := ⟨3, ![2, 100000, 4]⟩
abbrev S2x128x4 : Shape := ⟨3, ![2, 128, 4]⟩
abbrev S_ : Shape := ⟨0, ![]⟩
abbrev S2x100352x4 : Shape := ⟨3, ![2, 100352, 4]⟩
abbrev S2x392x256x4 : Shape := ⟨4, ![2, 392, 256, 4]⟩
abbrev S2x392x4x256 : Shape := ⟨4, ![2, 392, 4, 256]⟩
abbrev S2x392x1024 : Shape := ⟨3, ![2, 392, 1024]⟩
abbrev S2x4x100352 : Shape := ⟨3, ![2, 4, 100352]⟩
abbrev S2x4x392x256 : Shape := ⟨4, ![2, 4, 392, 256]⟩
abbrev S2x4x256x392 : Shape := ⟨4, ![2, 4, 256, 392]⟩
abbrev S2x128x16 : Shape := ⟨3, ![2, 128, 16]⟩
abbrev S1x392x1024 : Shape := ⟨3, ![1, 392, 1024]⟩
abbrev S1x4x256x392 : Shape := ⟨4, ![1, 4, 256, 392]⟩
abbrev S1x128x4 : Shape := ⟨3, ![1, 128, 4]⟩
abbrev S1x128x16 : Shape := ⟨3, ![1, 128, 16]⟩
abbrev S128x4 : Shape := ⟨2, ![128, 4]⟩
abbrev S128x1 : Shape := ⟨2, ![128, 1]⟩
abbrev S128x392 : Shape := ⟨2, ![128, 392]⟩
abbrev S1x1x8x392 : Shape := ⟨4, ![1, 1, 8, 392]⟩
abbrev S8x392 : Shape := ⟨2, ![8, 392]⟩
abbrev S1x392 : Shape := ⟨2, ![1, 392]⟩
abbrev S128 : Shape := ⟨1, ![128]⟩
abbrev S392x1024 : Shape := ⟨2, ![392, 1024]⟩
abbrev S1536x1 : Shape := ⟨2, ![1536, 1]⟩
abbrev S1536x392 : Shape := ⟨2, ![1536, 392]⟩
abbrev S392x512 : Shape := ⟨2, ![392, 512]⟩
abbrev S1536x512 : Shape := ⟨2, ![1536, 512]⟩
abbrev S1x256 : Shape := ⟨2, ![1, 256]⟩
abbrev S128x256 : Shape := ⟨2, ![128, 256]⟩
abbrev S128x3072 : Shape := ⟨2, ![128, 3072]⟩
abbrev S1x16 : Shape := ⟨2, ![1, 16]⟩
abbrev S128x16 : Shape := ⟨2, ![128, 16]⟩
abbrev S1152x1 : Shape := ⟨2, ![1152, 1]⟩
abbrev S1152x392 : Shape := ⟨2, ![1152, 392]⟩
abbrev S1152x1024 : Shape := ⟨2, ![1152, 1024]⟩
abbrev S1152x256 : Shape := ⟨2, ![1152, 256]⟩
abbrev S1152 : Shape := ⟨1, ![1152]⟩
abbrev S128x9 : Shape := ⟨2, ![128, 9]⟩
abbrev S128x7 : Shape := ⟨2, ![128, 7]⟩
abbrev S2x128x9 : Shape := ⟨3, ![2, 128, 9]⟩

abbrev nBuf : Space → Nat
  | .hbm => 15
  | .vmem => 10
  | .smem => 0
  | _ => 0

abbrev bufTy : (tb : Table) → Fin (tcTables nBuf tb) → BufTy
  | .hbm, ⟨0, _⟩ => ⟨S2x100000x4, .f32⟩
  | .hbm, ⟨1, _⟩ => ⟨S2x128x4, .f32⟩
  | .hbm, ⟨2, _⟩ => ⟨S_, .f32⟩
  | .hbm, ⟨3, _⟩ => ⟨S_, .f32⟩
  | .hbm, ⟨4, _⟩ => ⟨S2x100352x4, .f32⟩
  | .hbm, ⟨5, _⟩ => ⟨S2x392x256x4, .f32⟩
  | .hbm, ⟨6, _⟩ => ⟨S2x392x4x256, .f32⟩
  | .hbm, ⟨7, _⟩ => ⟨S2x392x1024, .f32⟩
  | .hbm, ⟨8, _⟩ => ⟨S2x4x100352, .f32⟩
  | .hbm, ⟨9, _⟩ => ⟨S2x4x392x256, .f32⟩
  | .hbm, ⟨10, _⟩ => ⟨S2x4x256x392, .f32⟩
  | .hbm, ⟨11, _⟩ => ⟨S2x128x16, .i32⟩
  | .hbm, ⟨12, _⟩ => ⟨S2x128x16, .f32⟩
  | .hbm, ⟨13, _⟩ => ⟨S2x128x9, .i32⟩
  | .hbm, ⟨14, _⟩ => ⟨S2x128x9, .f32⟩
  | .local _ .vmem, ⟨0, _⟩ => ⟨S1x392x1024, .f32⟩
  | .local _ .vmem, ⟨1, _⟩ => ⟨S1x392x1024, .f32⟩
  | .local _ .vmem, ⟨2, _⟩ => ⟨S1x4x256x392, .f32⟩
  | .local _ .vmem, ⟨3, _⟩ => ⟨S1x4x256x392, .f32⟩
  | .local _ .vmem, ⟨4, _⟩ => ⟨S1x128x4, .f32⟩
  | .local _ .vmem, ⟨5, _⟩ => ⟨S1x128x4, .f32⟩
  | .local _ .vmem, ⟨6, _⟩ => ⟨S1x128x16, .i32⟩
  | .local _ .vmem, ⟨7, _⟩ => ⟨S1x128x16, .i32⟩
  | .local _ .vmem, ⟨8, _⟩ => ⟨S1x128x16, .f32⟩
  | .local _ .vmem, ⟨9, _⟩ => ⟨S1x128x16, .f32⟩
  | _, _ => ⟨S2x100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c32_i32 : BitVec 32 := 32#32
  let v7 : BitVec 32 := Scalar.addi c0_i32 c32_i32
  let c1_i32 : BitVec 32 := 1#32
  ⟨c0_i32, v7, c1_i32⟩
def k0_off1 (k0_t1 : Fin k0_t1_loop.trips) : Fin 4 → Nat :=
  let c0_107 : Index := 0#32
  let c0_108 : Index := 0#32
  let c0_i32 : BitVec 32 := 0#32
  let c1_i32 : BitVec 32 := 1#32
  let arg6 : BitVec 32 := Scf.iv c0_i32 c1_i32 k0_t1
  let c8_i32 : BitVec 32 := 8#32
  let v544 : BitVec 32 := Scalar.muli arg6 c8_i32
  let v545 : Index := Scalar.indexCast v544
  let c0_109 : Index := 0#32
  ![0, 0, v545.toNat, 0]
def k0_off2 (k0_t1 : Fin k0_t1_loop.trips) : Fin 4 → Nat :=
  let c0_110 : Index := 0#32
  let c1 : Index := 1#32
  let c0_i32 : BitVec 32 := 0#32
  let c1_i32 : BitVec 32 := 1#32
  let arg6 : BitVec 32 := Scf.iv c0_i32 c1_i32 k0_t1
  let c8_i32 : BitVec 32 := 8#32
  let v544 : BitVec 32 := Scalar.muli arg6 c8_i32
  let v548 : Index := Scalar.indexCast v544
  let c0_111 : Index := 0#32
  ![0, 1, v548.toNat, 0]
@[reducible] def k0_t2_loop : Scf.Loop 32 :=
  let c0_i32_69 : BitVec 32 := 0#32
  let c9_i32 : BitVec 32 := 9#32
  let v363 : BitVec 32 := Scalar.addi c0_i32_69 c9_i32
  let c1_i32_70 : BitVec 32 := 1#32
  ⟨c0_i32_69, v363, c1_i32_70⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x392x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x256x392 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x16 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2x100000x4 : Shape := ⟨3, ![2, 100000, 4]⟩
abbrev S2x128x4 : Shape := ⟨3, ![2, 128, 4]⟩
abbrev S2x128x2 : Shape := ⟨3, ![2, 128, 2]⟩
abbrev S2x128x1x2 : Shape := ⟨4, ![2, 128, 1, 2]⟩
abbrev S2x100000x2 : Shape := ⟨3, ![2, 100000, 2]⟩
abbrev S2x1x100000x2 : Shape := ⟨4, ![2, 1, 100000, 2]⟩
abbrev S2x128x100000x2 : Shape := ⟨4, ![2, 128, 100000, 2]⟩
abbrev S_ : Shape := ⟨0, ![]⟩
abbrev S2x128x100000 : Shape := ⟨3, ![2, 128, 100000]⟩
abbrev S2x128x9 : Shape := ⟨3, ![2, 128, 9]⟩
abbrev S2x128x9x1 : Shape := ⟨4, ![2, 128, 9, 1]⟩
abbrev S2x128x9x4 : Shape := ⟨4, ![2, 128, 9, 4]⟩
abbrev S2x128x1 : Shape := ⟨3, ![2, 128, 1]⟩
abbrev S2x128 : Shape := ⟨2, ![2, 128]⟩
abbrev S2x128x9x2 : Shape := ⟨4, ![2, 128, 9, 2]⟩
abbrev S128 : Shape := ⟨1, ![128]⟩
abbrev S128x9 : Shape := ⟨2, ![128, 9]⟩

abbrev nBuf : Space → Nat
  | .hbm => 197
  | .vmem => 0
  | .smem => 0
  | _ => 0

abbrev hbmTy0_0 (i : Nat) : BufTy := match i % 128 with
  | 0 => ⟨S2x100000x4, .f32⟩
  | 1 => ⟨S2x128x4, .f32⟩
  | 2 => ⟨S2x128x2, .f32⟩
  | 3 => ⟨S2x128x1x2, .f32⟩
  | 4 => ⟨S2x100000x2, .f32⟩
  | 5 => ⟨S2x1x100000x2, .f32⟩
  | 6 => ⟨S2x128x100000x2, .f32⟩
  | 7 => ⟨S2x128x100000x2, .f32⟩
  | 8 => ⟨S2x128x100000x2, .f32⟩
  | 9 => ⟨S2x128x100000x2, .f32⟩
  | 10 => ⟨S_, .f32⟩
  | 11 => ⟨S2x128x100000, .f32⟩
  | 12 => ⟨S2x128x100000, .f32⟩
  | 13 => ⟨S2x128x100000, .f32⟩
  | 14 => ⟨S2x128x9, .f32⟩
  | 15 => ⟨S2x128x9, .i32⟩
  | 16 => ⟨S_, .i32⟩
  | 17 => ⟨S2x128x9, .i32⟩
  | 18 => ⟨S2x128x9, .i1⟩
  | 19 => ⟨S_, .i32⟩
  | 20 => ⟨S2x128x9, .i32⟩
  | 21 => ⟨S2x128x9, .i32⟩
  | 22 => ⟨S2x128x9, .i32⟩
  | 23 => ⟨S2x128x9x1, .i32⟩
  | 24 => ⟨S2x128x9x4, .f32⟩
  | 25 => ⟨S2x128x1, .f32⟩
  | 26 => ⟨S2x128, .f32⟩
  | 27 => ⟨S2x128x1, .f32⟩
  | 28 => ⟨S2x128, .f32⟩
  | 29 => ⟨S2x128x1, .f32⟩
  | 30 => ⟨S2x128, .f32⟩
  | 31 => ⟨S2x128x1, .f32⟩
  | 32 => ⟨S2x128, .f32⟩
  | 33 => ⟨S_, .f32⟩
  | 34 => ⟨S2x128, .f32⟩
  | 35 => ⟨S2x128, .f32⟩
  | 36 => ⟨S2x128, .f32⟩
  | 37 => ⟨S_, .f32⟩
  | 38 => ⟨S2x128, .f32⟩
  | 39 => ⟨S2x128, .f32⟩
  | 40 => ⟨S2x128, .f32⟩
  | 41 => ⟨S_, .f32⟩
  | 42 => ⟨S2x128, .f32⟩
  | 43 => ⟨S2x128, .f32⟩
  | 44 => ⟨S2x128, .f32⟩
  | 45 => ⟨S_, .f32⟩
  | 46 => ⟨S2x128, .f32⟩
  | 47 => ⟨S2x128, .f32⟩
  | 48 => ⟨S2x128, .f32⟩
  | 49 => ⟨S2x128x1, .f32⟩
  | 50 => ⟨S2x128x1, .f32⟩
  | 51 => ⟨S2x128x1, .f32⟩
  | 52 => ⟨S2x128x1, .f32⟩
  | 53 => ⟨S2x128x4, .f32⟩
  | 54 => ⟨S2x128x9x1, .f32⟩
  | 55 => ⟨S2x128x9, .f32⟩
  | 56 => ⟨S2x128x9x1, .f32⟩
  | 57 => ⟨S2x128x9, .f32⟩
  | 58 => ⟨S2x128x9x1, .f32⟩
  | 59 => ⟨S2x128x9, .f32⟩
  | 60 => ⟨S2x128x9x1, .f32⟩
  | 61 => ⟨S2x128x9, .f32⟩
  | 62 => ⟨S_, .f32⟩
  | 63 => ⟨S2x128x9, .f32⟩
  | 64 => ⟨S2x128x9, .f32⟩
  | 65 => ⟨S2x128x9, .f32⟩
  | 66 => ⟨S_, .f32⟩
  | 67 => ⟨S2x128x9, .f32⟩
  | 68 => ⟨S2x128x9, .f32⟩
  | 69 => ⟨S2x128x9, .f32⟩
  | 70 => ⟨S_, .f32⟩
  | 71 => ⟨S2x128x9, .f32⟩
  | 72 => ⟨S2x128x9, .f32⟩
  | 73 => ⟨S2x128x9, .f32⟩
  | 74 => ⟨S_, .f32⟩
  | 75 => ⟨S2x128x9, .f32⟩
  | 76 => ⟨S2x128x9, .f32⟩
  | 77 => ⟨S2x128x9, .f32⟩
  | 78 => ⟨S2x128x9x1, .f32⟩
  | 79 => ⟨S2x128x9x1, .f32⟩
  | 80 => ⟨S2x128x9x1, .f32⟩
  | 81 => ⟨S2x128x9x1, .f32⟩
  | 82 => ⟨S2x128x9x4, .f32⟩
  | 83 => ⟨S2x128x2, .f32⟩
  | 84 => ⟨S2x128x1x2, .f32⟩
  | 85 => ⟨S2x128x9x2, .f32⟩
  | 86 => ⟨S2x128x9x2, .f32⟩
  | 87 => ⟨S2x128x9x2, .f32⟩
  | 88 => ⟨S2x128x2, .f32⟩
  | 89 => ⟨S2x128x1x2, .f32⟩
  | 90 => ⟨S2x128x9x2, .f32⟩
  | 91 => ⟨S2x128x9x2, .f32⟩
  | 92 => ⟨S2x128x9x2, .f32⟩
  | 93 => ⟨S2x128x9x2, .f32⟩
  | 94 => ⟨S_, .f32⟩
  | 95 => ⟨S_, .f32⟩
  | 96 => ⟨S2x128x9x2, .f32⟩
  | 97 => ⟨S2x128x9x2, .f32⟩
  | 98 => ⟨S2x128x9x1, .f32⟩
  | 99 => ⟨S2x128x9, .f32⟩
  | 100 => ⟨S2x128x9x1, .f32⟩
  | 101 => ⟨S2x128x9, .f32⟩
  | 102 => ⟨S2x128x9, .f32⟩
  | 103 => ⟨S2x128x1, .f32⟩
  | 104 => ⟨S2x128, .f32⟩
  | 105 => ⟨S2x128x1, .f32⟩
  | 106 => ⟨S2x128, .f32⟩
  | 107 => ⟨S2x128, .f32⟩
  | 108 => ⟨S2x128x1, .f32⟩
  | 109 => ⟨S2x128, .f32⟩
  | 110 => ⟨S2x128x1, .f32⟩
  | 111 => ⟨S2x128, .f32⟩
  | 112 => ⟨S2x128, .f32⟩
  | 113 => ⟨S2x128, .f32⟩
  | 114 => ⟨S2x128x9x1, .f32⟩
  | 115 => ⟨S2x128x9, .f32⟩
  | 116 => ⟨S2x128x9x1, .f32⟩
  | 117 => ⟨S2x128x9, .f32⟩
  | 118 => ⟨S2x128x9, .f32⟩
  | 119 => ⟨S2x128x9x1, .f32⟩
  | 120 => ⟨S2x128x9, .f32⟩
  | 121 => ⟨S2x128x9x1, .f32⟩
  | 122 => ⟨S2x128x9, .f32⟩
  | 123 => ⟨S2x128x9, .f32⟩
  | 124 => ⟨S2x128x9, .f32⟩
  | 125 => ⟨S2x128x1, .f32⟩
  | 126 => ⟨S2x128x9, .f32⟩
  | 127 => ⟨S2x128x9, .f32⟩
  | _ => ⟨S2x100000x4, .f32⟩

abbrev hbmTy0_1 (i : Nat) : BufTy := match i % 128 with
  | 0 => ⟨S2x128x9, .f32⟩
  | 1 => ⟨S2x128x9, .f32⟩
  | 2 => ⟨S_, .f32⟩
  | 3 => ⟨S2x128, .f32⟩
  | 4 => ⟨S_, .f32⟩
  | 5 => ⟨S2x128, .f32⟩
  | 6 => ⟨S2x128, .f32⟩
  | 7 => ⟨S_, .i32⟩
  | 8 => ⟨S_, .f32⟩
  | 9 => ⟨S2x128, .f32⟩
  | 10 => ⟨S2x128x1, .f32⟩
  | 11 => ⟨S_, .f32⟩
  | 12 => ⟨S2x128x1, .f32⟩
  | 13 => ⟨S2x128x1, .f32⟩
  | 14 => ⟨S2x128x9, .f32⟩
  | 15 => ⟨S2x128x9, .f32⟩
  | 16 => ⟨S2x128x9, .f32⟩
  | 17 => ⟨S_, .f32⟩
  | 18 => ⟨S_, .f32⟩
  | 19 => ⟨S_, .f32⟩
  | 20 => ⟨S_, .f32⟩
  | 21 => ⟨S2x128, .f32⟩
  | 22 => ⟨S2x128, .f32⟩
  | 23 => ⟨S2x128, .f32⟩
  | 24 => ⟨S_, .f32⟩
  | 25 => ⟨S_, .i1⟩
  | 26 => ⟨S_, .f32⟩
  | 27 => ⟨S_, .f32⟩
  | 28 => ⟨S128, .f32⟩
  | 29 => ⟨S2x128, .f32⟩
  | 30 => ⟨S2x128, .f32⟩
  | 31 => ⟨S2x128, .f32⟩
  | 32 => ⟨S2x128, .f32⟩
  | 33 => ⟨S2x128x9x1, .f32⟩
  | 34 => ⟨S2x128x9, .f32⟩
  | 35 => ⟨S2x128x9x1, .f32⟩
  | 36 => ⟨S2x128x9, .f32⟩
  | 37 => ⟨S2x128x1, .f32⟩
  | 38 => ⟨S2x128, .f32⟩
  | 39 => ⟨S2x128x1, .f32⟩
  | 40 => ⟨S2x128x9, .f32⟩
  | 41 => ⟨S2x128x9, .i1⟩
  | 42 => ⟨S2x128x1, .f32⟩
  | 43 => ⟨S2x128, .f32⟩
  | 44 => ⟨S2x128x1, .f32⟩
  | 45 => ⟨S2x128x9, .f32⟩
  | 46 => ⟨S2x128x9, .i1⟩
  | 47 => ⟨S2x128x9, .i1⟩
  | 48 => ⟨S2x128x1, .f32⟩
  | 49 => ⟨S2x128, .f32⟩
  | 50 => ⟨S2x128x1, .f32⟩
  | 51 => ⟨S2x128x9, .f32⟩
  | 52 => ⟨S2x128x9, .i1⟩
  | 53 => ⟨S2x128x9, .i1⟩
  | 54 => ⟨S2x128x1, .f32⟩
  | 55 => ⟨S2x128, .f32⟩
  | 56 => ⟨S2x128x1, .f32⟩
  | 57 => ⟨S2x128x9, .f32⟩
  | 58 => ⟨S2x128x9, .i1⟩
  | 59 => ⟨S2x128x9, .i1⟩
  | 60 => ⟨S2x128x1, .f32⟩
  | 61 => ⟨S2x128x9, .f32⟩
  | 62 => ⟨S2x128x9, .i1⟩
  | 63 => ⟨S2x128x9, .i1⟩
  | 64 => ⟨S_, .f32⟩
  | 65 => ⟨S_, .f32⟩
  | 66 => ⟨S128x9, .f32⟩
  | 67 => ⟨S2x128x9, .f32⟩
  | 68 => ⟨S2x128x9, .f32⟩
  | _ => ⟨S2x100000x4, .f32⟩

abbrev hbmTy (i : Nat) : BufTy := match i / 128 with
  | 0 => hbmTy0_0 i
  | 1 => hbmTy0_1 i
  | _ => ⟨S2x100000x4, .f32⟩

abbrev bufTy : (tb : Table) → Fin (tcTables nBuf tb) → BufTy
  | .hbm, ⟨i, _⟩ => hbmTy i
  | _, _ => ⟨S2x100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_values : Ref sig .tc := ⟨.hbm, 14, rfl⟩
abbrev main_indices : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_5 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_6 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_8 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_cst_9 : Ref sig .tc := ⟨.hbm, 94, rfl⟩
abbrev main_call0_v0 : Ref sig .tc := ⟨.hbm, 95, rfl⟩
abbrev main_call0_v1 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_cst_10 : Ref sig .tc := ⟨.hbm, 130, rfl⟩
abbrev main_v112 : Ref sig .tc := ⟨.hbm, 131, rfl⟩
abbrev main_cst_11 : Ref sig .tc := ⟨.hbm, 132, rfl⟩
abbrev main_v113 : Ref sig .tc := ⟨.hbm, 133, rfl⟩
abbrev main_v114 : Ref sig .tc := ⟨.hbm, 134, rfl⟩
abbrev main_c_12 : Ref sig .tc := ⟨.hbm, 135, rfl⟩
abbrev main_call1_call0_cst : Ref sig .tc := ⟨.hbm, 136, rfl⟩
abbrev main_call1_call0_v0 : Ref sig .tc := ⟨.hbm, 137, rfl⟩
abbrev main_call1_call0_v1 : Ref sig .tc := ⟨.hbm, 138, rfl⟩
abbrev main_call1_call0_cst_0 : Ref sig .tc := ⟨.hbm, 139, rfl⟩
abbrev main_call1_call0_v2 : Ref sig .tc := ⟨.hbm, 140, rfl⟩
abbrev main_call1_call0_v3 : Ref sig .tc := ⟨.hbm, 141, rfl⟩
abbrev main_call1_call0_v4 : Ref sig .tc := ⟨.hbm, 142, rfl⟩
abbrev main_call1_call0_v5 : Ref sig .tc := ⟨.hbm, 143, rfl⟩
abbrev main_call1_call0_v6 : Ref sig .tc := ⟨.hbm, 144, rfl⟩
abbrev main_call1_call0_v7 : Ref sig .tc := ⟨.hbm, 145, rfl⟩
abbrev main_call1_call0_cst_1 : Ref sig .tc := ⟨.hbm, 146, rfl⟩
abbrev main_call1_call0_v8 : Ref sig .tc := ⟨.hbm, 147, rfl⟩
abbrev main_call1_call0_cst_2 : Ref sig .tc := ⟨.hbm, 148, rfl⟩
abbrev main_call1_call0_v9 : Ref sig .tc := ⟨.hbm, 149, rfl⟩
abbrev main_call1_call0_v10 : Ref sig .tc := ⟨.hbm, 150, rfl⟩
abbrev main_call1_call0_v11 : Ref sig .tc := ⟨.hbm, 151, rfl⟩
abbrev main_call1_call0_cst_3 : Ref sig .tc := ⟨.hbm, 152, rfl⟩
abbrev main_call1_call0_v12 : Ref sig .tc := ⟨.hbm, 153, rfl⟩
abbrev main_call1_call0_cst_4 : Ref sig .tc := ⟨.hbm, 154, rfl⟩
abbrev main_call1_call0_call0_v0 : Ref sig .tc := ⟨.hbm, 155, rfl⟩
abbrev main_call1_call0_call0_v1 : Ref sig .tc := ⟨.hbm, 156, rfl⟩
abbrev main_call1_call0_call0_v2 : Ref sig .tc := ⟨.hbm, 157, rfl⟩
abbrev main_call1_v0 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_cst_13 : Ref sig .tc := ⟨.hbm, 192, rfl⟩
abbrev main_call2_v0 : Ref sig .tc := ⟨.hbm, 193, rfl⟩
abbrev main_call2_v1 : Ref sig .tc := ⟨.hbm, 194, rfl⟩
abbrev main_call2_v2 : Ref sig .tc := ⟨.hbm, 195, rfl⟩
abbrev main_v148 : Ref sig .tc := ⟨.hbm, 196, rfl⟩

abbrev nD : Nat := 1
abbrev τ : Topo := Topo.v7x

variable {F : FTy → Type} [FloatOps F]
-- ==== Proof.Rank.lean ====
/- The rank of an entry of a finite family of keys in a linear order, and the three ways in which ranks are
   carried from one family to another: along an embedding whose image is closed downwards, and from the
   entries of an array to the blocks they lie in. Nothing here mentions a program. -/
module

public import Mathlib.Data.Fintype.Card
public import Mathlib.Data.Fintype.EquivFin
public import Mathlib.Data.Finset.Fold
public import Mathlib.Data.Prod.Lex
public import Mathlib.Data.EReal.Basic

@[expose] public section

noncomputable section

namespace Cert.Atss

open Classical in
/-- How many entries of the family `k` lie strictly before entry `i`. -/
def rank {ι α : Type} [Fintype ι] [LinearOrder α] (k : ι → α) (i : ι) : ℕ :=
  (Finset.univ.filter fun j => k j < k i).card

section
variable {ι κ α : Type} [Fintype ι] [Fintype κ] [LinearOrder α]

/-- A smaller key has a smaller rank. -/
theorem rank_lt_rank {k : ι → α} {i j : ι} (h : k i < k j) : rank k i < rank k j := by
  classical
  unfold rank
  refine Finset.card_lt_card ⟨fun x hx => ?_, fun hs => ?_⟩
  · simp only [Finset.mem_filter, Finset.mem_univ, true_and] at hx ⊢
    exact hx.trans h
  · have := hs (x := i) (by simpa using h)
    simp at this

/-- The order of ranks is the order of keys. -/
theorem rank_lt_iff {k : ι → α} {i j : ι} : rank k i < rank k j ↔ k i < k j := by
  refine ⟨fun h => ?_, rank_lt_rank⟩
  by_contra hn
  rcases (not_lt.mp hn).lt_or_eq with h' | h'
  · exact absurd (rank_lt_rank h') (by omega)
  · have : rank k i = rank k j := by unfold rank; rw [h']
    omega

/-- Distinct keys have distinct ranks. -/
theorem rank_inj {k : ι → α} (hk : Function.Injective k) {i j : ι} (h : rank k i = rank k j) : i = j := by
  by_contra hn
  rcases lt_or_gt_of_ne (fun e => hn (hk e) : k i ≠ k j) with h' | h'
  · exact absurd (rank_lt_rank h') (by omega)
  · exact absurd (rank_lt_rank h') (by omega)

/-- A rank is less than the number of entries. -/
theorem rank_lt_card (k : ι → α) (i : ι) : rank k i < Fintype.card ι := by
  classical
  unfold rank
  refine Finset.card_lt_univ_of_notMem (x := i) ?_
  simp

/-- With distinct keys every rank below the number of entries is taken. -/
theorem exists_rank {k : ι → α} (hk : Function.Injective k) {m : ℕ} (hm : m < Fintype.card ι) : ∃ i, rank k i = m := by
  let f : ι → Fin (Fintype.card ι) := fun i => ⟨rank k i, rank_lt_card k i⟩
  have hf : Function.Injective f := fun i j h => rank_inj hk (congrArg Fin.val h)
  have hs : Function.Surjective f := ((Fintype.bijective_iff_injective_and_card f).mpr ⟨hf, by simp⟩).2
  obtain ⟨i, hi⟩ := hs ⟨m, hm⟩
  exact ⟨i, congrArg Fin.val hi⟩

/-- A rank among a part of the entries is the rank among them all, where every entry before it is in the part. -/
theorem rank_embed {k : ι → α} {k' : κ → α} (f : κ → ι) (hf : Function.Injective f)
    (hk : ∀ a b, k' a < k' b ↔ k (f a) < k (f b)) (a : κ) (hdown : ∀ i, k i < k (f a) → ∃ b, f b = i) :
    rank k' a = rank k (f a) := by
  classical
  unfold rank
  refine Finset.card_bij (fun b _ => f b) (fun b hb => ?_) (fun b _ c _ h => hf h) (fun i hi => ?_)
  · simp only [Finset.mem_filter, Finset.mem_univ, true_and] at hb ⊢
    exact (hk b a).mp hb
  · simp only [Finset.mem_filter, Finset.mem_univ, true_and] at hi
    obtain ⟨b, rfl⟩ := hdown i hi
    exact ⟨b, by simpa using (hk b a).mpr hi, rfl⟩

end

/-- The key of an entry: its value, and its number where values are equal. -/
def key {ι : Type} (v : ι → EReal) (L : ι → ℕ) (i : ι) : EReal ×ₗ ℕ := toLex (v i, L i)

theorem key_lt {ι : Type} {v : ι → EReal} {L : ι → ℕ} {i j : ι} :
    key v L i < key v L j ↔ v i < v j ∨ v i = v j ∧ L i < L j := by
  unfold key
  rw [Prod.Lex.toLex_lt_toLex]

theorem key_injective {ι : Type} (v : ι → EReal) {L : ι → ℕ} (hL : Function.Injective L) :
    Function.Injective (key v L) := by
  intro i j h
  exact hL (congrArg (fun p : EReal ×ₗ ℕ => (ofLex p).2) h)

/-- The block of an entry stands among the blocks, ordered by their least values and then by number, no later than the
    entry stands among the entries: each block before it holds an entry before this one. -/
theorem rank_block_le {ι β : Type} [Fintype ι] [Fintype β] {D : ι → EReal} {L : ι → ℕ} {M : β → EReal} {B : β → ℕ}
    (blk : ι → β) (hle : ∀ e, M (blk e) ≤ D e) (hatt : ∀ b, ∃ e, blk e = b ∧ M b = D e)
    (hB : ∀ e e', B (blk e) < B (blk e') → L e < L e') (e : ι) :
    rank (key M B) (blk e) ≤ rank (key D L) e := by
  classical
  choose f hf hM using hatt
  unfold rank
  refine Finset.card_le_card_of_injOn f (fun b hb => ?_) (fun b _ c _ h => by rw [← hf b, ← hf c, h])
  simp only [Finset.coe_filter, Finset.mem_univ, true_and, Set.mem_setOf_eq, key_lt] at hb ⊢
  rcases hb with hb | ⟨hb, hb'⟩
  · exact .inl (by rw [← hM]; exact hb.trans_le (hle e))
  · rcases (hle e).lt_or_eq with h | h
    · exact .inl (by rw [← hM, hb]; exact h)
    · exact .inr ⟨by rw [← hM, hb, h], hB _ _ (by rw [hf]; exact hb')⟩

/-! ## Rounds: take the least value with the least number, then overwrite it -/

/-- The least of a family, as a fold from the top. -/
def least {ι : Type} [Fintype ι] (w : ι → EReal) : EReal := Finset.univ.fold min ⊤ w

theorem least_eq {ι : Type} [Fintype ι] {w : ι → EReal} {x : EReal} (h : ∀ i, x ≤ w i) (h' : ∃ i, w i = x) :
    least w = x := by
  refine le_antisymm ?_ ?_
  · obtain ⟨i, hi⟩ := h'
    exact (Finset.fold_min_le _).mpr (.inr ⟨i, Finset.mem_univ i, hi.le⟩)
  · exact (Finset.le_fold_min _).mpr ⟨le_top, fun i _ => h i⟩

open Classical in
/-- The least number among the entries whose value is the least; entries of a greater value count as `big`. -/
def pick {ι : Type} [Fintype ι] (big : EReal) (w : ι → EReal) (L : ι → ℕ) : EReal :=
  least fun i => if w i = least w then (((L i : ℕ) : ℝ) : EReal) else big

open Classical in
/-- The family with the picked entry overwritten by the top. -/
def drop {ι : Type} [Fintype ι] (big : EReal) (w : ι → EReal) (L : ι → ℕ) : ι → EReal :=
  fun i => if (((L i : ℕ) : ℝ) : EReal) = pick big w L then ⊤ else w i

open Classical in
/-- The family with its `m` first entries overwritten by the top. -/
def masked {ι : Type} [Fintype ι] (v : ι → EReal) (L : ι → ℕ) (m : ℕ) : ι → EReal :=
  fun i => if rank (key v L) i < m then ⊤ else v i

section
variable {ι : Type} [Fintype ι] {v : ι → EReal} {L : ι → ℕ} {big : EReal}

theorem masked_zero : masked v L 0 = v := by funext i; simp [masked]

theorem least_masked (hv : ∀ i, v i < ⊤) {m : ℕ} {e : ι} (he : rank (key v L) e = m) : least (masked v L m) = v e := by
  refine least_eq (fun i => ?_) ⟨e, by simp [masked, he]⟩
  unfold masked
  split_ifs with h
  · exact le_top
  · by_contra hn
    exact h (he ▸ rank_lt_rank (key_lt.mpr (.inl (not_le.mp hn))))

/-- Round `m` picks the number of the entry of rank `m`. -/
theorem pick_masked (hv : ∀ i, v i < ⊤) (hbig : ∀ i, (((L i : ℕ) : ℝ) : EReal) ≤ big) {m : ℕ} {e : ι}
    (he : rank (key v L) e = m) : pick big (masked v L m) L = (((L e : ℕ) : ℝ) : EReal) := by
  unfold pick
  rw [least_masked hv he]
  refine least_eq (fun i => ?_) ⟨e, by simp [masked, he]⟩
  split_ifs with h
  · by_contra hn
    have hn' : L i < L e := by
      have := not_le.mp hn
      exact_mod_cast this
    unfold masked at h
    split_ifs at h with h1
    · exact absurd h (hv e).ne'
    · exact h1 (he ▸ rank_lt_rank (key_lt.mpr (.inr ⟨h, hn'⟩)))
  · exact hbig e

/-- Round `m` overwrites the entry of rank `m`. -/
theorem drop_masked (hL : Function.Injective L) (hv : ∀ i, v i < ⊤) (hbig : ∀ i, (((L i : ℕ) : ℝ) : EReal) ≤ big) {m : ℕ}
    (hm : m < Fintype.card ι) : drop big (masked v L m) L = masked v L (m + 1) := by
  obtain ⟨e, he⟩ := exists_rank (key_injective v hL) hm
  funext i
  unfold drop
  rw [pick_masked hv hbig he]
  by_cases hi : i = e
  · subst hi
    simp [masked, he]
  · have h1 : ¬ (((L i : ℕ) : ℝ) : EReal) = (((L e : ℕ) : ℝ) : EReal) := by
      intro h
      exact hi (hL (by exact_mod_cast h))
    have h2 : rank (key v L) i ≠ m := fun h => hi (rank_inj (key_injective v hL) (h.trans he.symm))
    rw [if_neg h1]
    unfold masked
    by_cases h3 : rank (key v L) i < m
    · rw [if_pos h3, if_pos (by omega)]
    · rw [if_neg h3, if_neg (by omega)]

/-- After `m` rounds the `m` first entries are overwritten. -/
theorem drop_iterate (hL : Function.Injective L) (hv : ∀ i, v i < ⊤) (hbig : ∀ i, (((L i : ℕ) : ℝ) : EReal) ≤ big) (m : ℕ)
    (hm : m ≤ Fintype.card ι) : (fun w => drop big w L)^[m] v = masked v L m := by
  induction m with
  | zero => simp [masked_zero]
  | succ m ih =>
    rw [Function.iterate_succ_apply', ih (by omega)]
    exact drop_masked hL hv hbig (by omega)

end

/-! ## The entries picked from the best blocks are the first of all -/

/-- Blocks of `O` entries, the entry `o` of block `b` at number `O * b + o`; `J` blocks chosen in the order of their
    least values. The entry of rank `k < J` among the chosen blocks' entries is the entry of rank `k` among all. -/
theorem rank_chosen {nB O J : ℕ} (D : Fin (O * nB) → EReal) (M : Fin nB → EReal) (σ : Fin J → Fin nB)
    (hO : 0 < O)
    (hle : ∀ e : Fin (O * nB), M ⟨e.val / O, Nat.div_lt_of_lt_mul e.isLt⟩ ≤ D e)
    (hatt : ∀ b, ∃ e : Fin (O * nB), e.val / O = b.val ∧ M b = D e)
    (hσ : ∀ j, rank (key M (fun b => b.val)) (σ j) = j.val)
    (f : Fin (O * J) → Fin (O * nB)) (hf : ∀ c, (f c).val = O * (σ ⟨c.val / O, Nat.div_lt_of_lt_mul c.isLt⟩).val + c.val % O)
    {e : Fin (O * nB)} (he : rank (key D (fun i => i.val)) e < J) :
    ∃ c, f c = e ∧ rank (key (fun c => D (f c)) (fun c => (f c).val)) c = rank (key D (fun i => i.val)) e := by
  have hrange : ∀ e : Fin (O * nB), rank (key D (fun i => i.val)) e < J → ∃ c, f c = e := by
    intro e he
    have h1 := rank_block_le (D := D) (L := fun i => i.val) (M := M) (B := fun b => b.val)
      (fun e : Fin (O * nB) => (⟨e.val / O, Nat.div_lt_of_lt_mul e.isLt⟩ : Fin nB)) hle
      (fun b => by obtain ⟨e, h, h'⟩ := hatt b; exact ⟨e, Fin.ext h, h'⟩)
      (fun e e' h => by
        by_contra hn
        exact absurd (Nat.div_le_div_right (c := O) (not_lt.mp hn)) (not_le.mpr h)) e
    have h2 := lt_of_le_of_lt h1 he
    let j : Fin J := ⟨_, h2⟩
    have hj : σ j = ⟨e.val / O, Nat.div_lt_of_lt_mul e.isLt⟩ :=
      rank_inj (key_injective M Fin.val_injective) (hσ j)
    have hlt : O * j.val + e.val % O < O * J := by
      have := Nat.mod_lt e.val hO
      calc O * j.val + e.val % O < O * j.val + O := by omega
        _ = O * (j.val + 1) := by ring
        _ ≤ O * J := Nat.mul_le_mul_left _ j.isLt
    refine ⟨⟨_, hlt⟩, Fin.ext ?_⟩
    rw [hf]
    have hd : (O * j.val + e.val % O) / O = j.val := by
      rw [Nat.mul_add_div hO, Nat.div_eq_of_lt (Nat.mod_lt _ hO), Nat.add_zero]
    have hm : (O * j.val + e.val % O) % O = e.val % O := by
      rw [Nat.mul_add_mod, Nat.mod_mod]
    have hj' : (⟨(O * j.val + e.val % O) / O, Nat.div_lt_of_lt_mul hlt⟩ : Fin J) = j := Fin.ext hd
    simp only [hj', hm, hj]
    exact Nat.div_add_mod _ _
  have hinj : Function.Injective f := by
    intro c c' h
    have h1 : O * (σ ⟨c.val / O, Nat.div_lt_of_lt_mul c.isLt⟩).val + c.val % O
        = O * (σ ⟨c'.val / O, Nat.div_lt_of_lt_mul c'.isLt⟩).val + c'.val % O := by rw [← hf, ← hf, h]
    have hd := congrArg (· / O) h1
    have hm := congrArg (· % O) h1
    simp only [Nat.mul_add_div hO, Nat.div_eq_of_lt (Nat.mod_lt _ hO), Nat.add_zero, Nat.mul_add_mod, Nat.mod_mod] at hd hm
    have h2 : σ ⟨c.val / O, Nat.div_lt_of_lt_mul c.isLt⟩ = σ ⟨c'.val / O, Nat.div_lt_of_lt_mul c'.isLt⟩ := Fin.ext hd
    have h3 := hσ ⟨c.val / O, Nat.div_lt_of_lt_mul c.isLt⟩
    rw [h2, hσ] at h3
    refine Fin.ext ?_
    rw [← Nat.div_add_mod c.val O, ← Nat.div_add_mod c'.val O, hm]
    simp only at h3
    rw [h3]
  obtain ⟨c, hc⟩ := hrange e he
  refine ⟨c, hc, ?_⟩
  subst hc
  exact rank_embed f hinj (fun a b => Iff.rfl) c fun i hi => hrange i ((rank_lt_rank hi).trans he)

end Cert.Atss

end
-- ==== Proof.Nums.lean ====
/- Scalars over the reals: the words of the literals, and whole numbers as floats. -/
module

public import Idealize.ShloMosaic.Lib.Pointwise
public import proofs.«01_k».proof.Proof.Rank

@[expose] public section

noncomputable section

namespace Cert.Atss

open Idealize.ShloMosaic

/-- The word `0x7F800000` is plus infinity. -/
theorem word_top : Ideal.ofBits .f32 0x7F800000#32 = ⊤ := by simp [Ideal.ofBits, Ideal.ieee]

/-- The word `0x4E6E6B28` is one thousand million. -/
theorem word_big : Ideal.ofBits .f32 0x4E6E6B28#32 = ((1000000000 : ℝ) : EReal) := by
  simp [Ideal.ofBits, Ideal.ieee, -EReal.coe_mul]; norm_num

/-- The word `0x43800000` is 256. -/
theorem word_256 : Ideal.ofBits .f32 0x43800000#32 = ((256 : ℝ) : EReal) := by
  simp [Ideal.ofBits, Ideal.ieee, -EReal.coe_mul]; norm_num

/-- The word `0x3B800000` is one 256th. -/
theorem word_inv256 : Ideal.ofBits .f32 0x3B800000#32 = ((1 / 256 : ℝ) : EReal) := by
  simp [Ideal.ofBits, Ideal.ieee, -EReal.coe_mul]; norm_num

/-- The word `0x40400000` is three. -/
theorem word_three : Ideal.ofBits .f32 0x40400000#32 = ((3 : ℝ) : EReal) := by
  simp [Ideal.ofBits, Ideal.ieee, -EReal.coe_mul]; norm_num

/-- A whole number below `2 ^ 31`, read as a signed word and made a float, is that number. -/
theorem sitofp_ofNat (n : ℕ) (h : n < 2 ^ 31) :
    (FloatOps.sitofp (F := Ideal) .f32 (BitVec.ofNat 32 n) : EReal) = ((n : ℝ) : EReal) := by
  show (((BitVec.ofNat 32 n).toInt : ℝ) : EReal) = _
  have : (BitVec.ofNat 32 n).toInt = n := by
    rw [BitVec.toInt_eq_toNat_of_lt] <;> simp [BitVec.toNat_ofNat] <;> omega
  rw [this]; norm_cast

/-- A truth value as a float is one or zero. -/
theorem sitofp_bool (p : Prop) [Decidable p] :
    (FloatOps.sitofp (F := Ideal) .f32 (BitVec.setWidth 32 (BitVec.ofBool (decide p))) : EReal) = if p then 1 else 0 := by
  show (((BitVec.setWidth 32 (BitVec.ofBool (decide p))).toInt : ℝ) : EReal) = _
  by_cases h : p <;> simp [h]

end Cert.Atss

end
-- ==== Proof.Within.lean ====
/- What the precondition says of the boxes: every centre lies in the unit square, every prediction's sizes are finite. -/
module

public import proofs.«01_k».proof.Defs
public import Idealize.ShloMosaic.Lib.Pipeline.ValueKit
public import Idealize.ShloMosaic.Lib.Claim
public import proofs.«01_k».proof.Proof.Nums

@[expose] public section

set_option maxRecDepth 16384

noncomputable section

namespace Cert.Atss

open Idealize.ShloMosaic Cert.Pre_centres_in_unit_square

theorem preFacts : Cert.Pre_centres_in_unit_square.Facts :=
  ⟨by decide +kernel, by decide +kernel, by decide +kernel, by decide +kernel, by decide +kernel, by decide +kernel, by decide +kernel⟩

section
variable [Cert.Pre_centres_in_unit_square.Facts] (X : FVec Ideal S2x100000x4 .f32) (Y : FVec Ideal S2x128x4 .f32)

theorem both_bits (p q : Prop) [Decidable p] [Decidable q] (h : IntOp.andi (BitVec.ofBool (decide p)) (BitVec.ofBool (decide q)) = 1#1) : p ∧ q := by
  by_cases hp : p <;> by_cases hq : q <;> simp_all [IntOp.andi]

theorem one_bit (p : Prop) [Decidable p] (h : BitVec.ofBool (decide p) = 1#1) : p := by
  by_cases hp : p <;> simp_all

variable (h : fn X Y = fun _ => 1#1)
include h

theorem centre_pred (b : Fin 2) (e : Fin 100000) (d : Fin 2) :
    0 ≤ X (ix3 b e ⟨d.val, by show _ < 4; omega⟩) ∧ X (ix3 b e ⟨d.val, by show _ < 4; omega⟩) ≤ 1 := by
  have h1 := congrFun h (ix3 b ⟨e.val, by show _ < 200128; omega⟩ d)
  unfold fn at h1
  revert h1
  pointwise []
  rw [dif_pos (by omega)]
  exact both_bits _ _

theorem centre_gt (b : Fin 2) (g : Fin 128) (d : Fin 2) :
    0 ≤ Y (ix3 b g ⟨d.val, by show _ < 4; omega⟩) ∧ Y (ix3 b g ⟨d.val, by show _ < 4; omega⟩) ≤ 1 := by
  have h1 := congrFun h (ix3 b ⟨100000 + g.val, by show _ < 200128; omega⟩ d)
  unfold fn at h1
  revert h1
  pointwise []
  rw [dif_pos (by omega)]
  exact both_bits _ _

theorem size_pred (b : Fin 2) (e : Fin 100000) (d : Fin 2) :
    X (ix3 b e ⟨2 + d.val, by show _ < 4; omega⟩) ≠ ⊤ ∧ X (ix3 b e ⟨2 + d.val, by show _ < 4; omega⟩) ≠ ⊥ := by
  have h1 := congrFun h (ix3 b ⟨100128 + e.val, by show _ < 200128; omega⟩ d)
  unfold fn at h1
  revert h1
  pointwise []
  intro h2
  have h3 := one_bit _ h2
  rw [word_top] at h3
  refine ⟨fun e => ?_, fun e => ?_⟩
  · rw [e] at h3
    exact absurd h3 (by show ¬ (max ⊤ (-⊤) : EReal) < ⊤; simp)
  · rw [e] at h3
    exact absurd h3 (by show ¬ (max ⊥ (-⊥) : EReal) < ⊤; simp)

end

end Cert.Atss

end
-- ==== Proof.Rounds.lean ====
/- The kernel's twelve rounds over the block minima, and its nine rounds over the candidates: one round of vector
   operations is one round of `pick` and `drop` on each row. -/
module

public import proofs.«01_k».proof.Proof.Gen.KernelIdeal.Skeleton
public import proofs.«01_k».proof.Proof.Nums

@[expose] public section

set_option maxRecDepth 16384

noncomputable section

namespace Cert.Atss

open Idealize.ShloMosaic Cert.KernelIdeal Cert.KernelIdeal.Gen

/-- The number that stands for "not the least" in a round. -/
abbrev big : EReal := Ideal.ofBits .f32 0x4E6E6B28#32

/-- Each row's least entry. -/
def minV (d : FVec Ideal S128x392 .f32) : FVec Ideal S128x1 .f32 :=
  shapeCast S128x1 (multiReduction .minimumf [1] S128 d 0x7F800000#32 reduces_S128x392_S128 (.inl rfl) rfl)
    shapeCasts_S128_S128x1

/-- Each row's picked block. -/
def pickV (d : FVec Ideal S128x392 .f32) : FVec Ideal S128x1 .f32 := k0_pay32 k0_pay16 d (minV d)

/-- The rows with the picked block overwritten. -/
def dropV (d : FVec Ideal S128x392 .f32) : FVec Ideal S128x392 .f32 := k0_pay33 k0_pay16 d (minV d)

/-- The rows after `k` rounds. -/
def rd (d : FVec Ideal S128x392 .f32) : ℕ → FVec Ideal S128x392 .f32
  | 0 => d
  | k + 1 => dropV (rd d k)

/-- The block that round `k` picks. -/
def sel (d : FVec Ideal S128x392 .f32) (k : ℕ) : FVec Ideal S128x1 .f32 := pickV (rd d k)

/-- One row of block values. -/
def row (d : FVec Ideal S128x392 .f32) (g : Fin 128) : Fin 392 → EReal := fun n => d (ix2 g n)

theorem pickV_row (d : FVec Ideal S128x392 .f32) (g : Fin 128) :
    pickV d (ix2 g 0) = pick big (row d g) Fin.val := by
  pointwise [pickV, k0_pay32, minV, k0_pay16]
  simp only [word_top, sitofp_ofNat _ (lt_of_lt_of_le (Fin.isLt _) (by norm_num : 392 ≤ 2 ^ 31))]
  unfold pick least row
  refine congrArg (fun f => Finset.univ.fold min ⊤ f) (funext fun x => ?_)
  congr

theorem dropV_row (d : FVec Ideal S128x392 .f32) (g : Fin 128) :
    row (dropV d) g = drop big (row d g) Fin.val := by
  funext n
  have h : dropV d (ix2 g n) = if (((n.val : ℕ) : ℝ) : EReal) = pickV d (ix2 g 0) then ⊤ else d (ix2 g n) := by
    pointwise [dropV, k0_pay33, k0_pay16]
    rw [sitofp_ofNat _ (lt_of_lt_of_le (Fin.isLt _) (by norm_num : 392 ≤ 2 ^ 31)), word_top]
    rfl
  show dropV d (ix2 g n) = _
  rw [h, pickV_row]
  unfold drop row
  congr

theorem rd_row (d : FVec Ideal S128x392 .f32) (g : Fin 128) (k : ℕ) :
    row (rd d k) g = (fun w => drop big w Fin.val)^[k] (row d g) := by
  induction k with
  | zero => rfl
  | succ k ih => rw [rd, dropV_row, ih, Function.iterate_succ_apply']

theorem label_le_big {n : ℕ} (h : n ≤ 1000000000) : ((n : ℝ) : EReal) ≤ big := by
  rw [big, word_big]
  have : (n : ℝ) ≤ 1000000000 := by exact_mod_cast h
  exact_mod_cast this

/-- Round `k` picks the block of rank `k`. -/
theorem sel_row (d : FVec Ideal S128x392 .f32) (g : Fin 128) (hd : ∀ n, row d g n < ⊤) {k : ℕ} {n : Fin 392}
    (hn : rank (key (row d g) Fin.val) n = k) : sel d k (ix2 g 0) = ((n.val : ℝ) : EReal) := by
  have hb : ∀ i : Fin 392, (((i.val : ℕ) : ℝ) : EReal) ≤ big := fun i => label_le_big (by omega)
  have hk : k < Fintype.card (Fin 392) := hn ▸ rank_lt_card _ _
  unfold sel
  rw [pickV_row, rd_row, drop_iterate Fin.val_injective hd hb k hk.le, pick_masked hd hb hn]

/-! The generated rounds are these. -/

/-- Where a row holds its least entry. -/
def mask (d : FVec Ideal S128x392 .f32) : IVec S128x392 1 :=
  cmpf .oeq d (broadcastTo S128x392 (minV d) broadcasts_S128x1_S128x392)

section
variable (v d : FVec Ideal S128x392 .f32)

theorem pay17_eq : k0_pay17 v = pickV (k0_pay15 v) := by rfl
theorem pay18_eq : k0_pay18 v = dropV (k0_pay15 v) := by rfl
theorem pay19_eq : k0_pay19 v = pickV (dropV (k0_pay15 v)) := by rw [← pay18_eq]; rfl
theorem pay20_eq : k0_pay20 v = dropV (dropV (k0_pay15 v)) := by rw [← pay18_eq]; rfl
theorem pay21_eq : k0_pay21 v = mask (k0_pay20 v) := by rfl
theorem pay23_eq : k0_pay23 k0_pay16 (mask d) k0_pay22 = pickV d := by rfl
theorem pay24_eq : k0_pay24 k0_pay16 d (mask d) k0_pay22 = dropV d := by rfl
theorem pay25_eq : k0_pay25 k0_pay16 d (mask d) k0_pay22 = pickV (dropV d) := by rw [← pay24_eq]; rfl
theorem pay26_eq : k0_pay26 k0_pay16 d (mask d) k0_pay22 = dropV (dropV d) := by rw [← pay24_eq]; rfl
theorem pay27_eq : k0_pay27 k0_pay16 d (mask d) k0_pay22 = pickV (dropV (dropV d)) := by rw [← pay26_eq]; rfl
theorem pay28_eq : k0_pay28 k0_pay16 d (mask d) k0_pay22 = dropV (dropV (dropV d)) := by rw [← pay26_eq]; rfl
theorem pay29_eq : k0_pay29 k0_pay16 d (mask d) k0_pay22 = pickV (dropV (dropV (dropV d))) := by rw [← pay28_eq]; rfl
theorem pay30_eq : k0_pay30 k0_pay16 d (mask d) k0_pay22 = dropV (dropV (dropV (dropV d))) := by rw [← pay28_eq]; rfl
theorem pay31_eq : k0_pay31 k0_pay16 d (mask d) k0_pay22 = minV (dropV (dropV (dropV (dropV d)))) := by rw [← pay30_eq]; rfl
theorem pay32_eq : k0_pay32 k0_pay16 d (minV d) = pickV d := by rfl
theorem pay33_eq : k0_pay33 k0_pay16 d (minV d) = dropV d := by rfl
theorem pay34_eq : k0_pay34 k0_pay16 d (minV d) = pickV (dropV d) := by rw [← pay33_eq]; rfl
theorem pay35_eq : k0_pay35 k0_pay16 d (minV d) = dropV (dropV d) := by rw [← pay33_eq]; rfl
theorem pay36_eq : k0_pay36 k0_pay16 d (minV d) = pickV (dropV (dropV d)) := by rw [← pay35_eq]; rfl
theorem pay37_eq : k0_pay37 k0_pay16 d (minV d) = dropV (dropV (dropV d)) := by rw [← pay35_eq]; rfl
theorem pay38_eq : k0_pay38 k0_pay16 d (minV d) = pickV (dropV (dropV (dropV d))) := by rw [← pay37_eq]; rfl
/-- Where a row's picked entry stands. -/
def hit : IVec S128x392 1 := cmpf .oeq (k0_pay16 (F := Ideal)) (broadcastTo S128x392 (pickV d) broadcasts_S128x1_S128x392)
theorem pay39_eq : k0_pay39 k0_pay16 d (minV d) = hit (dropV (dropV (dropV d))) := by unfold hit; rw [← pay38_eq]; rfl
theorem pay41_eq : k0_pay41 d (hit d) k0_pay40 = dropV d := by rfl
theorem pay42_eq : k0_pay42 k0_pay16 d (hit d) k0_pay40 = pickV (dropV d) := by rw [← pay41_eq]; rfl
theorem pay43_eq : k0_pay43 k0_pay16 d (hit d) k0_pay40 = pickV (dropV (dropV d)) := by rw [← pay41_eq]; rfl

end

end Cert.Atss

end
-- ==== Proof.Gather.lean ====
/- The kernel's gather of the chosen blocks' centres by a product with a one-hot matrix, and the candidates' distances and
   numbers computed from them. -/
module

public import proofs.«01_k».proof.Proof.Rounds
public import Idealize.ShloMosaic.Lib.Pipeline.ValueKit

@[expose] public section

set_option maxRecDepth 16384

noncomputable section

namespace Cert.Atss

open Idealize.ShloMosaic Cert.KernelIdeal Cert.KernelIdeal.Gen

/-- The squared distance of two points of the plane. -/
def sq (ax ay bx bry : EReal) : EReal := (ax - bx) * (ax - bx) + (ay - bry) * (ay - bry)

/-- A row of a product with a one-hot row is the row it names. -/
theorem onehot_sum {n : ℕ} (hn : n ≤ 2 ^ 31) (a : Fin n → EReal) (s : EReal) (b : Fin n) (hs : s = ((b.val : ℝ) : EReal)) :
    (∑ x : Fin n, (FloatOps.sitofp (F := Ideal) .f32 (BitVec.setWidth 32 (BitVec.ofBool (decide
      ((FloatOps.sitofp (F := Ideal) .f32 (BitVec.ofNat 32 x.val) : EReal) = s)))) : EReal) * a x) = a b := by
  rw [Finset.sum_eq_single b]
  · rw [sitofp_bool, sitofp_ofNat _ (by omega), if_pos hs.symm, one_mul]
  · intro x _ hx
    rw [sitofp_bool, sitofp_ofNat _ (by omega), if_neg, zero_mul]
    intro h
    rw [hs] at h
    exact hx (Fin.ext (by exact_mod_cast h))
  · intro h
    exact absurd (Finset.mem_univ b) h

/-- A finite number is its own three parts. -/
theorem split_sum (x : EReal) (h : x ≠ ⊤) (h' : x ≠ ⊥) : x + (x - x) + (x - x - (x - x)) = x := by
  lift x to ℝ using ⟨h, h'⟩
  norm_cast
  simp

/-- Twelve columns stacked, read in piece `j`. -/
theorem stack12 (f : Fin 12 → FVec Ideal S128x1 .f32) (h) (j : Fin 12) (g : Fin 128) :
    concatenate S1536x1 0 [⟨S128x1, f 0⟩, ⟨S128x1, f 1⟩, ⟨S128x1, f 2⟩, ⟨S128x1, f 3⟩, ⟨S128x1, f 4⟩, ⟨S128x1, f 5⟩,
      ⟨S128x1, f 6⟩, ⟨S128x1, f 7⟩, ⟨S128x1, f 8⟩, ⟨S128x1, f 9⟩, ⟨S128x1, f 10⟩, ⟨S128x1, f 11⟩] h
      (ix2 ⟨128 * j.val + g.val, by show _ < 1536; omega⟩ 0) = f j (ix2 g 0) := by
  refine concatenate_ofFn_apply (s₁ := S128x1) 0 f h rfl 128 rfl _ j ?_ _ ?_ ?_
  · show (128 * j.val + g.val) / 128 = _
    omega
  · show g.val = (128 * j.val + g.val) % 128
    omega
  · intro b hb
    fin_vals b with hb'
    · exact absurd (Fin.ext hb') hb
    · obtain rfl : b = 1 := Fin.ext hb'
      rfl

/-- Twelve blocks of columns side by side, read in piece `q / 256`. -/
theorem beside12 (f : Fin 12 → FVec Ideal S128x256 .f32) (h) (g : Fin 128) (q : Fin 3072) :
    concatenate S128x3072 1 [⟨S128x256, f 0⟩, ⟨S128x256, f 1⟩, ⟨S128x256, f 2⟩, ⟨S128x256, f 3⟩, ⟨S128x256, f 4⟩,
      ⟨S128x256, f 5⟩, ⟨S128x256, f 6⟩, ⟨S128x256, f 7⟩, ⟨S128x256, f 8⟩, ⟨S128x256, f 9⟩, ⟨S128x256, f 10⟩,
      ⟨S128x256, f 11⟩] h (ix2 g q) = f ⟨q.val / 256, by omega⟩ (ix2 g ⟨q.val % 256, by omega⟩) := by
  refine concatenate_ofFn_apply (s₁ := S128x256) 1 f h rfl 256 rfl _ _ ?_ _ ?_ ?_
  · rfl
  · rfl
  · intro b hb
    fin_vals b with hb'
    · obtain rfl : b = 0 := Fin.ext hb'
      rfl
    · exact absurd (Fin.ext hb') hb

/-- The chosen blocks' centres, one row per choice and box. -/
def rowsV (w : FVec Ideal S128x392 .f32) (x0 : Vec Ideal S1x392x1024 .f32) : FVec Ideal S1536x512 .f32 :=
  k0_pay49 k0_pay16 (sel w 0) (sel w 1) (sel w 2) (sel w 3) (sel w 4) (sel w 5) (sel w 6) (sel w 7) (sel w 8) (rd w 9)
    (sel w 9) (hit (rd w 9)) k0_pay40 x0

/-- A row of the gather is the centres of the block the choice names. -/
theorem rowsV_apply (w : FVec Ideal S128x392 .f32) (x0 : Vec Ideal S1x392x1024 .f32) (j : Fin 12) (g : Fin 128)
    (c : Fin 512) (b : Fin 392) (hb : sel w j.val (ix2 g 0) = ((b.val : ℝ) : EReal))
    (hx : x0 (ix3 0 b ⟨c.val, by omega⟩) ≠ ⊤) (hx' : x0 (ix3 0 b ⟨c.val, by omega⟩) ≠ ⊥) :
    rowsV w x0 (ix2 ⟨128 * j.val + g.val, by show _ < 1536; omega⟩ c) = x0 (ix3 0 b ⟨c.val, by omega⟩) := by
  unfold rowsV k0_pay49
  rw [pay42_eq, pay43_eq]
  generalize hs : concatenate _ _ _ _ = s
  have h : s (ix2 ⟨128 * j.val + g.val, by show _ < 1536; omega⟩ 0) = ((b.val : ℝ) : EReal) := by
    rw [← hs, ← hb]
    exact stack12 (fun k => sel w k.val) _ j g
  pointwise [k0_pay45, k0_pay47, k0_pay48, k0_pay46, k0_pay44]
  rw [onehot_sum (by norm_num) _ _ b h, onehot_sum (by norm_num) _ _ b h, onehot_sum (by norm_num) _ _ b h]
  exact split_sum _ hx hx'

/-! ## The candidates' distances and numbers -/

/-- The distances from the boxes' centres to the centres of their choice `j`. -/
def blockD (v2 v3 : FVec Ideal S128x1 .f32) (r : FVec Ideal S1536x512 .f32) (j : Fin 12) : FVec Ideal S128x256 .f32 := fun i =>
  Ideal.sqrt (sq (v2 (ix2 (i 0) 0)) (v3 (ix2 (i 0) 0))
    (r (ix2 ⟨128 * j.val + (i 0).val, by have : (i 0).val < 128 := (i 0).isLt; show _ < 1536; omega⟩ ⟨(i 1).val, lt_of_lt_of_le (i 1).isLt (by decide)⟩))
    (r (ix2 ⟨128 * j.val + (i 0).val, by have : (i 0).val < 128 := (i 0).isLt; show _ < 1536; omega⟩ ⟨256 + (i 1).val, by have : (i 1).val < 256 := (i 1).isLt; show _ < 512; omega⟩)))

section
variable (v2 v3 : FVec Ideal S128x1 .f32) (r : FVec Ideal S1536x512 .f32)

theorem pay51_eq : k0_pay51 v2 v3 r = blockD v2 v3 r 0 := by
  funext i; pointwise [k0_pay51, blockD, sq]
theorem pay53_eq : k0_pay53 v2 v3 r = blockD v2 v3 r 1 := by funext i; pointwise [k0_pay53, blockD, sq]
theorem pay55_eq : k0_pay55 v2 v3 r = blockD v2 v3 r 2 := by funext i; pointwise [k0_pay55, blockD, sq]
theorem pay57_eq : k0_pay57 v2 v3 r = blockD v2 v3 r 3 := by funext i; pointwise [k0_pay57, blockD, sq]
theorem pay59_eq : k0_pay59 v2 v3 r = blockD v2 v3 r 4 := by funext i; pointwise [k0_pay59, blockD, sq]
theorem pay61_eq : k0_pay61 v2 v3 r = blockD v2 v3 r 5 := by funext i; pointwise [k0_pay61, blockD, sq]
theorem pay63_eq : k0_pay63 v2 v3 r = blockD v2 v3 r 6 := by funext i; pointwise [k0_pay63, blockD, sq]
theorem pay67_eq : k0_pay67 (k0_pay65 v3 r) (k0_pay66 v2 r) = blockD v2 v3 r 7 := by
  funext i; pointwise [k0_pay65, k0_pay66, k0_pay67, blockD, sq]
theorem pay69_eq : k0_pay69 v2 v3 r = blockD v2 v3 r 8 := by funext i; pointwise [k0_pay69, blockD, sq]
theorem pay71_eq : k0_pay71 v2 v3 r = blockD v2 v3 r 9 := by funext i; pointwise [k0_pay71, blockD, sq]
theorem pay73_eq : k0_pay73 v2 v3 r = blockD v2 v3 r 10 := by funext i; pointwise [k0_pay73, blockD, sq]

end

/-- The candidates' numbers of choice `j`: block number times 256 and the offset. -/
def blockGI (s : FVec Ideal S128x1 .f32) : FVec Ideal S128x256 .f32 := fun i =>
  s (ix2 (i 0) 0) * Ideal.ofBits .f32 0x43800000#32 + FloatOps.sitofp (F := Ideal) .f32 (BitVec.ofNat 32 (i 1).val)

/-- The offsets as a row of floats. -/
def iotaV : FVec Ideal S1x256 .f32 := k0_pay50 (iota .tc S1x256 32 [1] iota_S1x256_d1_w32)

section
variable (s : FVec Ideal S128x1 .f32)

theorem pay52_eq : k0_pay52 (F := Ideal) s (iota .tc S1x256 32 [1] iota_S1x256_d1_w32) = blockGI s := by
  funext i; pointwise [k0_pay52, k0_pay50, blockGI]
theorem pay54_eq : k0_pay54 (F := Ideal) s (iota .tc S1x256 32 [1] iota_S1x256_d1_w32) = blockGI s := by
  funext i; pointwise [k0_pay54, k0_pay50, blockGI]
theorem pay56_eq : k0_pay56 (F := Ideal) s (iota .tc S1x256 32 [1] iota_S1x256_d1_w32) = blockGI s := by
  funext i; pointwise [k0_pay56, k0_pay50, blockGI]
theorem pay58_eq : k0_pay58 s iotaV (Scalar.ofBits .f32 0x43800000#32) = blockGI s := by
  funext i; pointwise [k0_pay58, iotaV, k0_pay50, blockGI]
theorem pay60_eq : k0_pay60 s iotaV = blockGI s := by funext i; pointwise [k0_pay60, iotaV, k0_pay50, blockGI]
theorem pay62_eq : k0_pay62 s iotaV = blockGI s := by funext i; pointwise [k0_pay62, iotaV, k0_pay50, blockGI]
theorem pay64_eq : k0_pay64 s iotaV = blockGI s := by funext i; pointwise [k0_pay64, iotaV, k0_pay50, blockGI]
theorem pay68_eq : k0_pay68 s iotaV = blockGI s := by funext i; pointwise [k0_pay68, iotaV, k0_pay50, blockGI]
theorem pay70_eq : k0_pay70 s iotaV = blockGI s := by funext i; pointwise [k0_pay70, iotaV, k0_pay50, blockGI]
theorem pay72_eq : k0_pay72 s iotaV = blockGI s := by funext i; pointwise [k0_pay72, iotaV, k0_pay50, blockGI]
theorem pay74_eq : k0_pay74 s iotaV = blockGI s := by funext i; pointwise [k0_pay74, iotaV, k0_pay50, blockGI]

end

/-- All candidates' distances. -/
def candD (v2 v3 : FVec Ideal S128x1 .f32) (r : FVec Ideal S1536x512 .f32) : FVec Ideal S128x3072 .f32 :=
  k0_pay78 v3 (blockD v2 v3 r 0) (blockD v2 v3 r 1) (blockD v2 v3 r 2) (blockD v2 v3 r 3) (blockD v2 v3 r 4)
    (blockD v2 v3 r 5) (blockD v2 v3 r 6) (blockD v2 v3 r 7) (blockD v2 v3 r 8) (blockD v2 v3 r 9) (blockD v2 v3 r 10)
    (k0_pay75 r) (k0_pay76 r) (k0_pay77 v2)

theorem candD_apply (v2 v3 : FVec Ideal S128x1 .f32) (r : FVec Ideal S1536x512 .f32) (g : Fin 128) (q : Fin 3072) :
    candD v2 v3 r (ix2 g q) = blockD v2 v3 r ⟨q.val / 256, by omega⟩ (ix2 g ⟨q.val % 256, by omega⟩) := by
  unfold candD k0_pay78
  rw [← beside12 (blockD v2 v3 r)]
  swap
  · exact concatenates_S128x256_S128x256_S128x256_S128x256_S128x256_S128x256_S128x256_S128x256_S128x256_S128x256_S128x256_S128x256_S128x3072_d1
  have h : blockD v2 v3 r 11 = sqrt (addf (mulf (subf (k0_pay77 v2) (k0_pay75 r)) (subf (k0_pay77 v2) (k0_pay75 r)))
      (mulf (subf (broadcastTo S128x256 v3 broadcasts_S128x1_S128x256) (k0_pay76 r))
        (subf (broadcastTo S128x256 v3 broadcasts_S128x1_S128x256) (k0_pay76 r)))) := by
    funext i; pointwise [k0_pay75, k0_pay76, k0_pay77, blockD, sq]
  rw [h]

/-- All candidates' numbers. -/
def candGI (s : ℕ → FVec Ideal S128x1 .f32) : FVec Ideal S128x3072 .f32 :=
  k0_pay79 (s 11) iotaV (blockGI (s 0)) (blockGI (s 1)) (blockGI (s 2)) (blockGI (s 3)) (blockGI (s 4)) (blockGI (s 5))
    (blockGI (s 6)) (blockGI (s 7)) (blockGI (s 8)) (blockGI (s 9)) (blockGI (s 10))

theorem candGI_apply (s : ℕ → FVec Ideal S128x1 .f32) (g : Fin 128) (q : Fin 3072) (b : ℕ)
    (hs : s (q.val / 256) (ix2 g 0) = ((b : ℝ) : EReal)) :
    candGI s (ix2 g q) = (((256 * b + q.val % 256 : ℕ) : ℝ) : EReal) := by
  have h : candGI s (ix2 g q) = blockGI (s (q.val / 256)) (ix2 g ⟨q.val % 256, by omega⟩) := by
    unfold candGI k0_pay79
    rw [← beside12 (fun j => blockGI (s j.val))]
    swap
    · exact concatenates_S128x256_S128x256_S128x256_S128x256_S128x256_S128x256_S128x256_S128x256_S128x256_S128x256_S128x256_S128x256_S128x3072_d1
    have h : blockGI (s 11) = addf (broadcastTo S128x256 (mulf (s 11) (broadcast S128x1 (Scalar.ofBits .f32 0x43800000#32)))
        broadcasts_S128x1_S128x256) (broadcastTo S128x256 iotaV broadcasts_S1x256_S128x256) := by
      funext i; pointwise [iotaV, k0_pay50, blockGI]
    rw [show (11 : Fin 12).val = 11 from rfl, h]
    rfl
  rw [h]
  show s (q.val / 256) (ix2 g 0) * _ + _ = _
  rw [hs, word_256, sitofp_ofNat _ (by show q.val % 256 < _; omega)]
  norm_cast
  push_cast
  ring_nf

end Cert.Atss

end
-- ==== Proof.Minima.lean ====
/- The kernel's first loop: for each ground-truth box and each block, the least squared distance to a centre of the block. -/
module

public import proofs.«01_k».proof.Proof.Gen.KernelIdeal.Frame
public import Idealize.ShloMosaic.Lib.Pipeline.ValueKit
public import proofs.«01_k».proof.Proof.Gather

@[expose] public section

set_option maxRecDepth 16384

noncomputable section

namespace Cert.Atss

open Idealize.ShloMosaic Idealize.SL.Sem Cert.KernelIdeal Cert.KernelIdeal.Gen Idealize.ShloMosaic.TcCoe

/-- The squared distance from box `g`'s centre to the centre at offset `o` of block `n`, the centres held by offset. -/
def dsq (x1 : Vec Ideal S1x4x256x392 .f32) (x2 : Vec Ideal S1x128x4 .f32) (g : Fin 128) (n : Fin 392) (o : Fin 256) : EReal :=
  sq (x2 (ix3 0 g 0)) (x2 (ix3 0 g 1)) (x1 (ix4 0 0 o n)) (x1 (ix4 0 1 o n))

theorem trips_one : k0_t1_loop.trips = 32 := by decide +kernel

theorem off1_eq : ∀ k : Fin k0_t1_loop.trips, ∀ a, k0_off1 k a = ![0, 0, 8 * k.val, 0] a := by decide +kernel
theorem off2_eq : ∀ k : Fin k0_t1_loop.trips, ∀ a, k0_off2 k a = ![0, 1, 8 * k.val, 0] a := by decide +kernel

section
variable (𝒱 : Variants) (c : Dev nD) (bd : Option 𝒱.V) (i : grid0.Coords)
  (arg1 : Memref sig .tc .vmem S1x392x1024 .f32) (harg1 : arg1.IsWhole)
  (arg2 : Memref sig .tc .vmem S1x4x256x392 .f32) (harg2 : arg2.IsWhole)
  (arg3 : Memref sig .tc .vmem S1x128x4 .f32) (harg3 : arg3.IsWhole)
  (arg4 : Memref sig .tc .vmem S1x128x16 .i32) (harg4 : arg4.IsWhole)
  (arg5 : Memref sig .tc .vmem S1x128x16 .f32) (harg5 : arg5.IsWhole)
  (x2 : Vec Ideal S1x128x4 .f32) (x1 : Vec Ideal S1x4x256x392 .f32)

/-- What one trip leaves lies above what lies below the state before it and below the eight distances of the trip. -/
theorem trip_le (k : Fin k0_t1_loop.trips) (acc : FVec Ideal S128x392 .f32) (z : EReal) (g : Fin 128) (n : Fin 392) :
    z ≤ tripR_k0_t1 𝒱 c bd i arg1 harg1 arg2 harg2 arg3 harg3 arg4 harg4 arg5 harg5 x2 (harg2.unread x1) k acc (ix2 g n)
      ↔ z ≤ acc (ix2 g n) ∧ ∀ o : Fin 256, o.val / 8 = k.val → z ≤ dsq x1 x2 g n o := by
  have hk : k.val < 32 := lt_of_lt_of_eq k.isLt trips_one
  unfold tripR_k0_t1
  unfold trip_k0_t1
  blk_simp
  frame_out
  pointwise [k0_pay14, k0_pay10, k0_pay9, k0_pay8, k0_pay1, k0_pay2, k0_pay3, k0_pay4, k0_pay5, k0_pay6, k0_pay7]
  have a0 : k0_off1 k 0 = 0 := off1_eq k 0
  have a1 : k0_off1 k 1 = 0 := off1_eq k 1
  have a2 : k0_off1 k 2 = 8 * k.val := off1_eq k 2
  have a3 : k0_off1 k 3 = 0 := off1_eq k 3
  have b0 : k0_off2 k 0 = 0 := off2_eq k 0
  have b1 : k0_off2 k 1 = 1 := off2_eq k 1
  have b2 : k0_off2 k 2 = 8 * k.val := off2_eq k 2
  have b3 : k0_off2 k 3 = 0 := off2_eq k 3
  simp only [a0, a1, a2, a3, b0, b1, b2, b3, Nat.zero_add]
  have e : ∀ u : ℕ, ∀ hu : u < 8, ((∀ o : Fin 256, o.val / 8 = k.val → z ≤ dsq x1 x2 g n o) →
      z ≤ dsq x1 x2 g n ⟨8 * k.val + u, by omega⟩) := fun u hu h => h _ (by show (8 * k.val + u) / 8 = _; omega)
  refine ⟨fun h => ⟨(le_min_iff.mp h).1, fun o ho => ?_⟩, fun h => le_min h.1 ?_⟩
  · obtain ⟨-, h⟩ := le_min_iff.mp h
    simp only [le_min_iff] at h
    obtain ⟨⟨⟨h0, h1⟩, h2, h3⟩, ⟨h4, h5⟩, h6, h7⟩ := h
    have hu : o.val % 8 = 0 ∨ o.val % 8 = 1 ∨ o.val % 8 = 2 ∨ o.val % 8 = 3 ∨ o.val % 8 = 4 ∨ o.val % 8 = 5 ∨
      o.val % 8 = 6 ∨ o.val % 8 = 7 := by omega
    rcases hu with hu | hu | hu | hu | hu | hu | hu | hu
    · rw [show o = ⟨8 * k.val, by omega⟩ from Fin.ext (by show _ = 8 * k.val; omega)]; exact h0
    · rw [show o = ⟨8 * k.val + 1, by omega⟩ from Fin.ext (by show _ = 8 * k.val + 1; omega)]; exact h1
    · rw [show o = ⟨8 * k.val + 2, by omega⟩ from Fin.ext (by show _ = 8 * k.val + 2; omega)]; exact h2
    · rw [show o = ⟨8 * k.val + 3, by omega⟩ from Fin.ext (by show _ = 8 * k.val + 3; omega)]; exact h3
    · rw [show o = ⟨8 * k.val + 4, by omega⟩ from Fin.ext (by show _ = 8 * k.val + 4; omega)]; exact h4
    · rw [show o = ⟨8 * k.val + 5, by omega⟩ from Fin.ext (by show _ = 8 * k.val + 5; omega)]; exact h5
    · rw [show o = ⟨8 * k.val + 6, by omega⟩ from Fin.ext (by show _ = 8 * k.val + 6; omega)]; exact h6
    · rw [show o = ⟨8 * k.val + 7, by omega⟩ from Fin.ext (by show _ = 8 * k.val + 7; omega)]; exact h7
  · exact le_min
      (le_min (le_min (e 0 (by omega) h.2) (e 1 (by omega) h.2)) (le_min (e 2 (by omega) h.2) (e 3 (by omega) h.2)))
      (le_min (le_min (e 4 (by omega) h.2) (e 5 (by omega) h.2)) (le_min (e 6 (by omega) h.2) (e 7 (by omega) h.2)))

/-- After `k` trips the state is the greatest value below the distances of the offsets before `8 * k`. -/
theorem st_le (k : ℕ) (hk : k ≤ 32) (z : EReal) (g : Fin 128) (n : Fin 392) :
    z ≤ st_k0_t1 𝒱 c bd i arg1 harg1 arg2 harg2 arg3 harg3 arg4 harg4 arg5 harg5 x2 (harg2.unread x1) k0_pay13 k (ix2 g n)
      ↔ ∀ o : Fin 256, o.val / 8 < k → z ≤ dsq x1 x2 g n o := by
  induction k with
  | zero =>
    rw [st_k0_t1_zero]
    pointwise [k0_pay13]
    simp [word_top]
  | succ k ih =>
    have := st_k0_t1_succ 𝒱 c bd i arg1 harg1 arg2 harg2 arg3 harg3 arg4 harg4 arg5 harg5 x2 (harg2.unread x1) k0_pay13
      ⟨k, by rw [trips_one]; omega⟩
    simp only at this
    rw [this, trip_le, ih (by omega)]
    simp only
    refine ⟨fun h o ho => ?_, fun h => ⟨fun o ho => h o (by omega), fun o ho => h o (by omega)⟩⟩
    rcases Nat.lt_succ_iff_lt_or_eq.mp ho with h' | h'
    · exact h.1 o h'
    · exact h.2 o h'

/-- The loop leaves, at each box and block, the least of the block's squared distances. -/
theorem minima (g : Fin 128) (n : Fin 392) :
    (∀ o, st_k0_t1 𝒱 c bd i arg1 harg1 arg2 harg2 arg3 harg3 arg4 harg4 arg5 harg5 x2 (harg2.unread x1) k0_pay13 32 (ix2 g n)
        ≤ dsq x1 x2 g n o) ∧
    ∃ o, st_k0_t1 𝒱 c bd i arg1 harg1 arg2 harg2 arg3 harg3 arg4 harg4 arg5 harg5 x2 (harg2.unread x1) k0_pay13 32 (ix2 g n)
        = dsq x1 x2 g n o := by
  have h := fun z => st_le 𝒱 c bd i arg1 harg1 arg2 harg2 arg3 harg3 arg4 harg4 arg5 harg5 x2 x1 32 le_rfl z g n
  have h1 := fun o : Fin 256 => (h _).mp le_rfl o (by omega)
  obtain ⟨o, ho⟩ := Finite.exists_min (fun o => dsq x1 x2 g n o)
  exact ⟨h1, o, le_antisymm (h1 o) ((h _).mpr fun o' _ => ho o')⟩

end

end Cert.Atss

end
-- ==== Proof.Places.lean ====
/- Where a column, a coordinate or an entry of a block lies: the bounds the statements use. -/
module

public import Mathlib.Data.Fin.Basic

@[expose] public section

namespace Cert.Atss

theorem lt_cols (k : Fin 9) : k.val < 16 := by omega

theorem lt_coords (d : Fin 4) (o : Fin 256) : 256 * d.val + o.val < 1024 := by omega

theorem lt_entries (n : Fin 392) (o : Fin 256) : 256 * n.val + o.val < 100352 := by omega

end Cert.Atss

end
-- ==== Proof.Nine.lean ====
/- The kernel's second loop: nine rounds over the candidates, each noting the number it picks. -/
module

public import proofs.«01_k».proof.Proof.Gather
public import Idealize.ShloMosaic.Lib.Exec

@[expose] public section

set_option maxRecDepth 16384

noncomputable section

namespace Cert.Atss

open Idealize.ShloMosaic Cert.KernelIdeal Cert.KernelIdeal.Gen

/-- A property of the state that each trip carries on holds after the last. -/
theorem fold_induct {σ : Type} (P : ℕ → σ → Prop) : ∀ {n : ℕ} (g : Fin n → σ → σ) (init : σ), P 0 init →
    (∀ (k : Fin n) (s : σ), P k.val s → P (k.val + 1) (g k s)) →
    P n ((List.finRange n).foldl (fun acc k => g k acc) init)
  | 0, _, _, h0, _ => by simpa using h0
  | n + 1, g, init, h0, hs => by
    rw [List.finRange_succ_last, List.foldl_append, List.foldl_map]
    exact hs (Fin.last n) _ (fold_induct P (fun k => g k.castSucc) init h0 fun k s h => hs k.castSucc s h)

/-- One row of the candidates' values. -/
def row2 (d : FVec Ideal S128x3072 .f32) (g : Fin 128) : Fin 3072 → EReal := fun n => d (ix2 g n)

section
variable (s : ℕ → FVec Ideal S128x1 .f32) (D : FVec Ideal S128x3072 .f32)

/-- The number a round picks in each row. -/
def pickC (d : FVec Ideal S128x3072 .f32) : FVec Ideal S128x1 .f32 :=
  k0_pay81 (s 11) iotaV (blockGI (s 0)) (blockGI (s 1)) (blockGI (s 2)) (blockGI (s 3)) (blockGI (s 4)) (blockGI (s 5))
    (blockGI (s 6)) (blockGI (s 7)) (blockGI (s 8)) (blockGI (s 9)) (blockGI (s 10)) d

/-- The rows after a round. -/
def dropC (d : FVec Ideal S128x3072 .f32) : FVec Ideal S128x3072 .f32 :=
  k0_pay82 (s 11) iotaV (blockGI (s 0)) (blockGI (s 1)) (blockGI (s 2)) (blockGI (s 3)) (blockGI (s 4)) (blockGI (s 5))
    (blockGI (s 6)) (blockGI (s 7)) (blockGI (s 8)) (blockGI (s 9)) (blockGI (s 10)) d

/-- The numbers noted after a round. -/
def noteC (k : Fin k0_t2_loop.trips) (d : FVec Ideal S128x3072 .f32) (a : FVec Ideal S128x16 .f32) : FVec Ideal S128x16 .f32 :=
  k0_pay83 (s 11) iotaV (blockGI (s 0)) (blockGI (s 1)) (blockGI (s 2)) (blockGI (s 3)) (blockGI (s 4)) (blockGI (s 5))
    (blockGI (s 6)) (blockGI (s 7)) (blockGI (s 8)) (blockGI (s 9)) (blockGI (s 10)) k d a

/-- The numbers noted after all nine rounds. -/
def nine : FVec Ideal S128x16 .f32 :=
  (Scf.fold (fun (k : Fin k0_t2_loop.trips) (a : FVec Ideal S128x3072 .f32 × FVec Ideal S128x16 .f32) =>
    (dropC s a.1, noteC s k a.1 a.2)) (D, k0_pay80)).2

theorem trips_two : k0_t2_loop.trips = 9 := by decide +kernel

theorem pickC_row (d : FVec Ideal S128x3072 .f32) (g : Fin 128) (L : Fin 3072 → ℕ)
    (hL : ∀ q, candGI s (ix2 g q) = (((L q : ℕ) : ℝ) : EReal)) :
    pickC s d (ix2 g 0) = pick big (row2 d g) L := by
  have h : pickC s d (ix2 g 0) = Finset.univ.fold min (Ideal.ofBits FTy.f32 2139095040#32) (fun x : Fin 3072 =>
      if d (ix2 g x) = Finset.univ.fold min (Ideal.ofBits FTy.f32 2139095040#32) (fun x : Fin 3072 => d (ix2 g x))
      then candGI s (ix2 g x) else big) := by
    pointwise [pickC, k0_pay81]
    rfl
  rw [h]
  simp only [word_top, hL]
  unfold pick least row2
  refine congrArg (fun f => Finset.univ.fold min ⊤ f) (funext fun x => ?_)
  congr

theorem dropC_row (d : FVec Ideal S128x3072 .f32) (g : Fin 128) (L : Fin 3072 → ℕ)
    (hL : ∀ q, candGI s (ix2 g q) = (((L q : ℕ) : ℝ) : EReal)) :
    row2 (dropC s d) g = drop big (row2 d g) L := by
  funext n
  have h : dropC s d (ix2 g n) = if candGI s (ix2 g n) = pickC s d (ix2 g 0) then ⊤ else d (ix2 g n) := by
    pointwise [dropC, k0_pay82]
    rw [word_top]
    rfl
  show dropC s d (ix2 g n) = _
  rw [h, pickC_row s d g L hL, hL]
  unfold drop row2
  congr

theorem iv_two : ∀ (k : Fin k0_t2_loop.trips) (x : Fin 16),
    IntOp.cmpi .eq (BitVec.ofNat 32 x.val) (Scf.iv 0#32 1#32 k.val) = BitVec.ofBool (decide (x.val = k.val)) := by
  decide +kernel

theorem noteC_apply (k : Fin k0_t2_loop.trips) (d : FVec Ideal S128x3072 .f32) (a : FVec Ideal S128x16 .f32) (g : Fin 128)
    (x : Fin 16) : noteC s k d a (ix2 g x) = if x.val = k.val then pickC s d (ix2 g 0) else a (ix2 g x) := by
  pointwise [noteC, k0_pay83]
  rw [iv_two]
  by_cases h : x.val = k.val
  · rw [if_pos h, decide_eq_true h]; rfl
  · rw [if_neg h, decide_eq_false h]; rfl

/-- Column `k` of the noted numbers is the number of the candidate of rank `k`. -/
theorem nine_apply (g : Fin 128) (L : Fin 3072 → ℕ) (hL : ∀ q, candGI s (ix2 g q) = (((L q : ℕ) : ℝ) : EReal))
    (hinj : Function.Injective L) (hD : ∀ q, row2 D g q < ⊤) (hb : ∀ q, L q ≤ 1000000000) (k : ℕ) (hk : k < 9)
    (e : Fin 3072) (he : rank (key (row2 D g) L) e = k) :
    nine s D (ix2 g ⟨k, by omega⟩) = (((L e : ℕ) : ℝ) : EReal) := by
  have hb' : ∀ i, (((L i : ℕ) : ℝ) : EReal) ≤ big := fun i => label_le_big (hb i)
  unfold nine
  rw [Scf.fold_eq]
  have key := fold_induct (P := fun m (a : FVec Ideal S128x3072 .f32 × FVec Ideal S128x16 .f32) =>
    row2 a.1 g = masked (row2 D g) L m ∧ ((k < m) → m ≤ 9 → a.2 (ix2 g ⟨k, by omega⟩) = (((L e : ℕ) : ℝ) : EReal)))
    (fun (k : Fin k0_t2_loop.trips) a => (dropC s a.1, noteC s k a.1 a.2)) (D, k0_pay80)
    ⟨masked_zero.symm, fun h => absurd h (by omega)⟩ (fun m a h => by
      have hm : m.val < 9 := lt_of_lt_of_eq m.isLt trips_two
      refine ⟨?_, fun h1 h2 => ?_⟩
      · rw [dropC_row s _ g L hL, h.1]
        exact drop_masked hinj hD hb' (by rw [Fintype.card_fin]; omega)
      · simp only [noteC_apply]
        by_cases hmk : k = m.val
        · rw [if_pos hmk, pickC_row s _ g L hL, h.1]
          exact pick_masked hD hb' (he.trans hmk)
        · rw [if_neg hmk]
          exact h.2 (by omega) (by omega))
  exact key.2 (by rw [trips_two]; omega) (by rw [trips_two])

end

end Cert.Atss

end
-- ==== Proof.Boxes.lean ====
/- The kernel's second gather: the boxes of the noted numbers. -/
module

public import proofs.«01_k».proof.Proof.Places
public import proofs.«01_k».proof.Proof.Nine

@[expose] public section

set_option maxRecDepth 16384

noncomputable section

namespace Cert.Atss

open Idealize.ShloMosaic Cert.KernelIdeal Cert.KernelIdeal.Gen

/-- Nine columns stacked, read in piece `k`. -/
theorem stack9 (f : Fin 9 → FVec Ideal S128x1 .f32) (h) (k : Fin 9) (g : Fin 128) :
    concatenate S1152x1 0 [⟨S128x1, f 0⟩, ⟨S128x1, f 1⟩, ⟨S128x1, f 2⟩, ⟨S128x1, f 3⟩, ⟨S128x1, f 4⟩, ⟨S128x1, f 5⟩,
      ⟨S128x1, f 6⟩, ⟨S128x1, f 7⟩, ⟨S128x1, f 8⟩] h
      (ix2 ⟨128 * k.val + g.val, by show _ < 1152; omega⟩ 0) = f k (ix2 g 0) := by
  refine concatenate_ofFn_apply (s₁ := S128x1) 0 f h rfl 128 rfl _ k ?_ _ ?_ ?_
  · show (128 * k.val + g.val) / 128 = _
    omega
  · show g.val = (128 * k.val + g.val) % 128
    omega
  · intro b hb
    fin_vals b with hb'
    · exact absurd (Fin.ext hb') hb
    · obtain rfl : b = 1 := Fin.ext hb'
      rfl

section
variable (a : FVec Ideal S128x16 .f32) (k : Fin 9) (g : Fin 128)

theorem pay84_apply : k0_pay84 a (ix2 ⟨128 * k.val + g.val, by show _ < 1152; omega⟩ 0) = a (ix2 g ⟨k.val, lt_cols k⟩) := by
  have hs : ∀ n : Fin 9, S128x16.Slices ![0, n.val] S128x1 := by decide +kernel
  have h : k0_pay84 a (ix2 ⟨128 * k.val + g.val, by show _ < 1152; omega⟩ 0)
      = (fun n : Fin 9 => extractStridedSlice S128x1 ![0, n.val] a (hs n)) k (ix2 g 0) := by
    unfold k0_pay84
    exact stack9 (fun n => extractStridedSlice S128x1 ![0, n.val] a (hs n)) _ k g
  rw [h]
  pointwise []

variable {i : ℕ} (hi : i < 100352) (ha : a (ix2 g ⟨k.val, lt_cols k⟩) = ((i : ℝ) : EReal))
include hi ha

theorem pay85_apply : k0_pay85 a (ix2 ⟨128 * k.val + g.val, by show _ < 1152; omega⟩ 0) = (((i / 256 : ℕ) : ℝ) : EReal) := by
  pointwise [k0_pay85]
  rw [pay84_apply, ha, word_inv256, ← EReal.coe_mul]
  show ((Int.floor ((i : ℝ) * (1 / 256)) : ℝ) : EReal) = _
  have : Int.floor ((i : ℝ) * (1 / 256)) = ((i / 256 : ℕ) : ℤ) := by
    rw [mul_one_div, Int.floor_eq_iff]
    have h := Nat.div_add_mod i 256
    have h' := Nat.mod_lt i (show 256 > 0 by norm_num)
    have e : (i : ℝ) = 256 * ((i / 256 : ℕ) : ℝ) + ((i % 256 : ℕ) : ℝ) := by exact_mod_cast h.symm
    have e' : ((i % 256 : ℕ) : ℝ) < 256 := by exact_mod_cast h'
    have e'' : (0 : ℝ) ≤ ((i % 256 : ℕ) : ℝ) := Nat.cast_nonneg _
    rw [Int.cast_natCast]
    constructor <;> linarith
  rw [this]
  norm_cast

theorem pay88_apply (x : Fin 256) :
    k0_pay88 a (ix2 ⟨128 * k.val + g.val, by show _ < 1152; omega⟩ x) = (((i % 256 : ℕ) : ℝ) : EReal) := by
  have h : k0_pay88 a (ix2 ⟨128 * k.val + g.val, by show _ < 1152; omega⟩ x)
      = k0_pay84 a (ix2 ⟨128 * k.val + g.val, by show _ < 1152; omega⟩ 0)
        - k0_pay85 a (ix2 ⟨128 * k.val + g.val, by show _ < 1152; omega⟩ 0) * Ideal.ofBits .f32 0x43800000#32 := by
    pointwise [k0_pay88]
  rw [h, pay85_apply a k g hi ha, pay84_apply, ha, word_256, ← EReal.coe_mul, ← EReal.coe_sub]
  congr 1
  have := Nat.div_add_mod i 256
  have h2 : (i : ℝ) = 256 * ((i / 256 : ℕ) : ℝ) + ((i % 256 : ℕ) : ℝ) := by exact_mod_cast this.symm
  linarith

theorem pay86_apply (x0 : Vec Ideal S1x392x1024 .f32) (c : Fin 1024) (hn : i / 256 < 392)
    (hx : x0 (ix3 0 ⟨i / 256, hn⟩ c) ≠ ⊤) (hx' : x0 (ix3 0 ⟨i / 256, hn⟩ c) ≠ ⊥) :
    k0_pay86 (k0_pay45 x0) (k0_pay47 x0) (k0_pay48 x0) a (ix2 ⟨128 * k.val + g.val, by show _ < 1152; omega⟩ c)
      = x0 (ix3 0 ⟨i / 256, hn⟩ c) := by
  pointwise [k0_pay86, k0_pay45, k0_pay47, k0_pay48, k0_pay46, k0_pay44]
  have h := pay85_apply a k g hi ha
  rw [onehot_sum (by norm_num) _ _ ⟨i / 256, hn⟩ h, onehot_sum (by norm_num) _ _ ⟨i / 256, hn⟩ h,
    onehot_sum (by norm_num) _ _ ⟨i / 256, hn⟩ h]
  exact split_sum _ hx hx'

end

/-- A row of which the sum keeps the one entry at its offset. -/
theorem masked_sum (R : FVec Ideal S1152x1024 .f32) (v : FVec Ideal S1152x256 .f32) (r : Fin 1152) (d : Fin 256 → Fin 1024) (o : ℕ)
    (ho : o < 256) (hv : ∀ x, v (ix2 r x) = ((o : ℝ) : EReal)) :
    (∑ x : Fin 256, if k0_pay87 (F := Ideal) (ix2 r x) = v (ix2 r x) then R (ix2 r (d x)) else 0) = R (ix2 r (d ⟨o, ho⟩)) := by
  have e : ∀ x : Fin 256, k0_pay87 (F := Ideal) (ix2 r x) = ((x.val : ℝ) : EReal) := by
    intro x
    pointwise [k0_pay87]
    rw [sitofp_ofNat _ (by omega)]
  simp only [e, hv]
  rw [Finset.sum_eq_single ⟨o, ho⟩]
  · rw [if_pos rfl]
  · intro x _ hx
    rw [if_neg]
    intro h
    exact hx (Fin.ext (by exact_mod_cast h))
  · intro h
    exact absurd (Finset.mem_univ _) h

section
variable (R : FVec Ideal S1152x1024 .f32) (v : FVec Ideal S1152x256 .f32) (k : Fin 9) (g : Fin 128) (o : ℕ) (ho : o < 256)
  (hv : ∀ x, v (ix2 ⟨128 * k.val + g.val, by show _ < 1152; omega⟩ x) = ((o : ℝ) : EReal))
include hv

/-- The same, for a row known to be row `128 k + g`. -/
theorem masked_at (r : Fin 1152) (hr : r.val = 128 * k.val + g.val) (d : Fin 256 → Fin 1024) :
    (∑ x : Fin 256, if k0_pay87 (F := Ideal) (ix2 r x) = v (ix2 r x) then R (ix2 r (d x)) else 0)
      = R (ix2 ⟨128 * k.val + g.val, by show _ < 1152; omega⟩ (d ⟨o, ho⟩)) := by
  obtain ⟨r, hlt⟩ := r
  obtain rfl : r = 128 * k.val + g.val := hr
  exact masked_sum R v _ d o ho hv

theorem pay90_apply : k0_pay90 R k0_pay87 v (ix2 g k)
    = R (ix2 ⟨128 * k.val + g.val, by show _ < 1152; omega⟩ ⟨o, by show _ < 1024; omega⟩) := by
  pointwise [k0_pay90, k0_pay89]
  have key := fun r hr => masked_at R v k g o ho hv r hr (fun x => ⟨x.val, by show _ < 1024; omega⟩)
  fin_vals k with hk <;> simp only [hk, Nat.reduceSub, Nat.reduceLT, ↓reduceDIte] <;>
    exact (key _ (by first | (simp only [hk]; done) | (simp only [hk]; omega))).trans (by simp only [hk])

theorem pay91_apply : k0_pay91 R k0_pay87 v (ix2 g k)
    = R (ix2 ⟨128 * k.val + g.val, by show _ < 1152; omega⟩ ⟨256 + o, by show _ < 1024; omega⟩) := by
  pointwise [k0_pay91, k0_pay89]
  have key := fun r hr => masked_at R v k g o ho hv r hr (fun x => ⟨256 + x.val, by show _ < 1024; omega⟩)
  fin_vals k with hk <;> simp only [hk, Nat.reduceSub, Nat.reduceLT, ↓reduceDIte] <;>
    exact (key _ (by first | (simp only [hk]; done) | (simp only [hk]; omega))).trans (by simp only [hk])

theorem pay92_apply : k0_pay92 R k0_pay87 v (ix2 g k)
    = R (ix2 ⟨128 * k.val + g.val, by show _ < 1152; omega⟩ ⟨512 + o, by show _ < 1024; omega⟩) := by
  pointwise [k0_pay92, k0_pay89]
  have key := fun r hr => masked_at R v k g o ho hv r hr (fun x => ⟨512 + x.val, by show _ < 1024; omega⟩)
  fin_vals k with hk <;> simp only [hk, Nat.reduceSub, Nat.reduceLT, ↓reduceDIte] <;>
    exact (key _ (by first | (simp only [hk]; done) | (simp only [hk]; omega))).trans (by simp only [hk])

theorem pay95_apply : k0_pay95 (k0_pay93 R k0_pay87 v) (k0_pay94 R k0_pay87 v) (ix2 g k)
    = R (ix2 ⟨128 * k.val + g.val, by show _ < 1152; omega⟩ ⟨768 + o, by show _ < 1024; omega⟩) := by
  pointwise [k0_pay95, k0_pay94, k0_pay93, k0_pay89]
  have key := fun r hr => masked_at R v k g o ho hv r hr (fun x => ⟨768 + x.val, by show _ < 1024; omega⟩)
  fin_vals k with hk <;> simp only [hk, Nat.reduceSub, Nat.reduceLT, ↓reduceDIte] <;>
    exact (key _ (by first | (simp only [hk]; done) | (simp only [hk]; omega))).trans (by simp only [hk])

end

end Cert.Atss

end
-- ==== Proof.Score.lean ====
/- The score of a candidate box: its overlap with the ground-truth box, kept when it reaches the threshold and its centre lies inside. -/
module

public import proofs.«01_k».proof.Proof.Gather

@[expose] public section

set_option maxRecDepth 16384

noncomputable section

namespace Cert.Atss

open Idealize.ShloMosaic Cert.KernelIdeal Cert.KernelIdeal.Gen

/-- A box is its centre and its sizes: the left, upper, right and lower edges. -/
def x0 (a : Fin 4 → EReal) : EReal := a 0 - Ideal.ofBits .f32 0x3F000000#32 * a 2
def y0 (a : Fin 4 → EReal) : EReal := a 1 - Ideal.ofBits .f32 0x3F000000#32 * a 3
def x1 (a : Fin 4 → EReal) : EReal := a 0 + Ideal.ofBits .f32 0x3F000000#32 * a 2
def y1 (a : Fin 4 → EReal) : EReal := a 1 + Ideal.ofBits .f32 0x3F000000#32 * a 3

/-- The area two boxes share. -/
def inter (a b : Fin 4 → EReal) : EReal :=
  max 0 (min (x1 a) (x1 b) - max (x0 a) (x0 b)) * max 0 (min (y1 a) (y1 b) - max (y0 a) (y0 b))

def area (a : Fin 4 → EReal) : EReal := (x1 a - x0 a) * (y1 a - y0 a)

/-- The shared area over the area of the union. -/
def iou (a b : Fin 4 → EReal) : EReal := Ideal.div (inter a b) (area a + area b - inter a b)

def mean (u : Fin 9 → EReal) : EReal := Ideal.div (∑ k, u k) (Ideal.ofBits .f32 0x41100000#32)

/-- Mean and standard deviation (of eight degrees of freedom) of nine overlaps. -/
def thr (u : Fin 9 → EReal) : EReal :=
  mean u + Ideal.sqrt (Ideal.div (∑ k, (u k - mean u) * (u k - mean u)) (Ideal.ofBits .f32 0x41000000#32))

/-- The kept overlap of candidate `k` with the box `a`. -/
def score (a : Fin 4 → EReal) (b : Fin 9 → Fin 4 → EReal) (k : Fin 9) : EReal :=
  if thr (fun k => iou a (b k)) ≤ iou a (b k) ∧ ((x0 a ≤ b k 0 ∧ b k 0 ≤ x1 a) ∧ y0 a ≤ b k 1) ∧ b k 1 ≤ y1 a then iou a (b k) else 0

/-- Choosing by the bits of five conditions is choosing by their conjunction. -/
theorem select_and (p q r s t : Prop) [Decidable p] [Decidable q] [Decidable r] [Decidable s] [Decidable t] (x y : EReal) :
    Scalar.select (IntOp.andi (BitVec.ofBool (decide p)) (IntOp.andi (IntOp.andi (IntOp.andi (BitVec.ofBool (decide q))
      (BitVec.ofBool (decide r))) (BitVec.ofBool (decide s))) (BitVec.ofBool (decide t)))) x y
      = if p ∧ ((q ∧ r) ∧ s) ∧ t then x else y := by
  by_cases hp : p <;> by_cases hq : q <;> by_cases hr : r <;> by_cases hs : s <;> by_cases ht : t <;>
    simp [hp, hq, hr, hs, ht, IntOp.andi, Scalar.select]

/-- The kernel's last step computes the scores of the boxes its columns hold. -/
theorem pay108_apply (gt : Vec Ideal S1x128x4 .f32) (cx cy w : FVec Ideal S128x9 .f32) (h : FVec Ideal S1152x1 .f32) (h0 : FVec Ideal S128x1 .f32)
    (a : Fin 4 → EReal) (b : Fin 9 → Fin 4 → EReal) (g : Fin 128) (ha : ∀ d, gt (ix3 0 g d) = a d)
    (hcx : ∀ k, cx (ix2 g k) = b k 0) (hcy : ∀ k, cy (ix2 g k) = b k 1) (hw : ∀ k, w (ix2 g k) = b k 2)
    (hh : ∀ k, k0_pay95 h h0 (ix2 g k) = b k 3) (k : Fin 9) :
    k0_pay108 cx cy (k0_pay96 (k0_pay9 gt) (k0_pay11 gt)) (k0_pay97 (k0_pay9 gt) (k0_pay11 gt)) (k0_pay98 (k0_pay10 gt) (k0_pay12 gt))
      (k0_pay99 (k0_pay10 gt) (k0_pay12 gt)) (k0_pay100 cx w) (k0_pay101 cx w) (k0_pay102 cy h h0) (k0_pay103 cy h h0)
      (k0_pay104 (k0_pay9 gt) (k0_pay10 gt) (k0_pay11 gt) (k0_pay12 gt) cx cy w h h0) (k0_pay105 (k0_pay9 gt) (k0_pay11 gt))
      (k0_pay106 (k0_pay10 gt) (k0_pay12 gt)) (ix3 0 g ⟨k.val, by show _ < 16; omega⟩) = score a b k := by
  pointwise [k0_pay108, k0_pay96, k0_pay97, k0_pay98, k0_pay99, k0_pay100, k0_pay101, k0_pay102, k0_pay103, k0_pay104, k0_pay105, k0_pay106,
    k0_pay9, k0_pay10, k0_pay11, k0_pay12, k0_pay8]
  simp only [ha, hcx, hcy, hw, hh]
  exact select_and _ _ _ _ _ _ _

end Cert.Atss

end
-- ==== Proof.Stage.lean ====
/- What the kernel's body leaves in its two output blocks. -/
module

public import proofs.«01_k».proof.Proof.Minima
public import proofs.«01_k».proof.Proof.Boxes
public import proofs.«01_k».proof.Proof.Score

@[expose] public section

set_option maxRecDepth 16384

noncomputable section

namespace Cert.Atss

open Idealize.ShloMosaic Idealize.SL.Sem Cert.KernelIdeal Cert.KernelIdeal.Gen Idealize.ShloMosaic.TcCoe

/-- The noted numbers, from the block values `w` and the blocks of predictions and of boxes. -/
def noted (w : FVec Ideal S128x392 .f32) (x0 : Vec Ideal S1x392x1024 .f32) (x2 : Vec Ideal S1x128x4 .f32) : FVec Ideal S128x16 .f32 :=
  nine (sel w) (candD (k0_pay9 x2) (k0_pay10 x2) (rowsV w x0))

/-- The rows of the second gather. -/
def rows2 (a : FVec Ideal S128x16 .f32) (x0 : Vec Ideal S1x392x1024 .f32) : FVec Ideal S1152x1024 .f32 :=
  k0_pay86 (k0_pay45 x0) (k0_pay47 x0) (k0_pay48 x0) a

/-- The scores, from the noted numbers. -/
def scored (a : FVec Ideal S128x16 .f32) (x0 : Vec Ideal S1x392x1024 .f32) (gt : Vec Ideal S1x128x4 .f32) : Vec Ideal S1x128x16 .f32 :=
  let cx := k0_pay90 (rows2 a x0) k0_pay87 (k0_pay88 a)
  let cy := k0_pay91 (rows2 a x0) k0_pay87 (k0_pay88 a)
  let w := k0_pay92 (rows2 a x0) k0_pay87 (k0_pay88 a)
  let h := k0_pay93 (rows2 a x0) k0_pay87 (k0_pay88 a)
  let h0 := k0_pay94 (rows2 a x0) k0_pay87 (k0_pay88 a)
  k0_pay108 cx cy (k0_pay96 (k0_pay9 gt) (k0_pay11 gt)) (k0_pay97 (k0_pay9 gt) (k0_pay11 gt)) (k0_pay98 (k0_pay10 gt) (k0_pay12 gt))
      (k0_pay99 (k0_pay10 gt) (k0_pay12 gt)) (k0_pay100 cx w) (k0_pay101 cx w) (k0_pay102 cy h h0) (k0_pay103 cy h h0)
      (k0_pay104 (k0_pay9 gt) (k0_pay10 gt) (k0_pay11 gt) (k0_pay12 gt) cx cy w h h0) (k0_pay105 (k0_pay9 gt) (k0_pay11 gt))
      (k0_pay106 (k0_pay10 gt) (k0_pay12 gt))

/-- The gather's rows, the choices written out. -/
theorem gathered (w : FVec Ideal S128x392 .f32) (x0 : Vec Ideal S1x392x1024 .f32) :
    k0_pay49 k0_pay16 (pickV w) (pickV (dropV w)) (pickV (dropV (dropV w))) (pickV (dropV (dropV (dropV w))))
      (pickV (dropV (dropV (dropV (dropV w))))) (pickV (dropV (dropV (dropV (dropV (dropV w))))))
      (pickV (dropV (dropV (dropV (dropV (dropV (dropV w))))))) (pickV (dropV (dropV (dropV (dropV (dropV (dropV (dropV w))))))))
      (pickV (dropV (dropV (dropV (dropV (dropV (dropV (dropV (dropV w)))))))))
      (dropV (dropV (dropV (dropV (dropV (dropV (dropV (dropV (dropV w)))))))))
      (pickV (dropV (dropV (dropV (dropV (dropV (dropV (dropV (dropV (dropV w))))))))))
      (hit (dropV (dropV (dropV (dropV (dropV (dropV (dropV (dropV (dropV w)))))))))) k0_pay40 x0 = rowsV w x0 := by rfl

theorem offsets (l : List (Fin S1x256.rank)) (h) (hl : l = [1]) : k0_pay50 (F := Ideal) (iota .tc S1x256 32 l h) = iotaV := by
  subst hl; rfl
theorem first52 (s : FVec Ideal S128x1 .f32) (l : List (Fin S1x256.rank)) (h) (hl : l = [1]) :
    k0_pay52 s (iota .tc S1x256 32 l h) = blockGI s := by subst hl; exact pay52_eq s
theorem first54 (s : FVec Ideal S128x1 .f32) (l : List (Fin S1x256.rank)) (h) (hl : l = [1]) :
    k0_pay54 s (iota .tc S1x256 32 l h) = blockGI s := by subst hl; exact pay54_eq s
theorem first56 (s : FVec Ideal S128x1 .f32) (l : List (Fin S1x256.rank)) (h) (hl : l = [1]) :
    k0_pay56 s (iota .tc S1x256 32 l h) = blockGI s := by subst hl; exact pay56_eq s
theorem first58 (s : FVec Ideal S128x1 .f32) : k0_pay58 s iotaV (FloatOps.ofBits .f32 0x43800000#32) = blockGI s := pay58_eq s

/-- The candidates' distances, the blocks written out. -/
theorem candidates (v2 v3 : FVec Ideal S128x1 .f32) (r : FVec Ideal S1536x512 .f32) :
    k0_pay78 v3 (blockD v2 v3 r 0) (blockD v2 v3 r 1) (blockD v2 v3 r 2) (blockD v2 v3 r 3) (blockD v2 v3 r 4)
      (blockD v2 v3 r 5) (blockD v2 v3 r 6) (blockD v2 v3 r 7) (blockD v2 v3 r 8) (blockD v2 v3 r 9) (blockD v2 v3 r 10)
      (k0_pay75 r) (k0_pay76 r) (k0_pay77 v2) = candD v2 v3 r := by rfl

section
variable (c : Dev nD) (i : grid0.Coords)
  (arg1 : Memref sig .tc .vmem S1x392x1024 .f32) (harg1 : arg1.IsWhole)
  (arg2 : Memref sig .tc .vmem S1x4x256x392 .f32) (harg2 : arg2.IsWhole)
  (arg3 : Memref sig .tc .vmem S1x128x4 .f32) (harg3 : arg3.IsWhole)
  (arg4 : Memref sig .tc .vmem S1x128x16 .i32) (harg4 : arg4.IsWhole)
  (arg5 : Memref sig .tc .vmem S1x128x16 .f32) (harg5 : arg5.IsWhole)
  (x0 : Vec Ideal S1x392x1024 .f32) (x1 : Vec Ideal S1x4x256x392 .f32) (x2 : Vec Ideal S1x128x4 .f32)

/-- The least distance of each block to each box. -/
def near : FVec Ideal S128x392 .f32 :=
  k0_pay15 (st_k0_t1 Variants.none c none i arg1 harg1 arg2 harg2 arg3 harg3 arg4 harg4 arg5 harg5 x2 (harg2.unread x1) k0_pay13
    (Scf.trips 0#32 (Scalar.addi 0#32 32#32) 1#32))

theorem out3_eq (y : S1x128x16.Idx) :
    out0_A_3 c i arg1 harg1 arg2 harg2 arg3 harg3 arg4 harg4 arg5 harg5 x0 x1 x2 y
      = k0_pay107 (noted (near c i arg1 harg1 arg2 harg2 arg3 harg3 arg4 harg4 arg5 harg5 x1 x2) x0 x2) y := by
  frame_out
  unfold near
  generalize st_k0_t1 Variants.none c none i arg1 harg1 arg2 harg2 arg3 harg3 arg4 harg4 arg5 harg5 x2 (harg2.unread x1) k0_pay13
    (Scf.trips 0#32 (Scalar.addi 0#32 32#32) 1#32) = v
  change k0_pay107 _ y = _
  simp only [pay21_eq, pay17_eq, pay19_eq, pay20_eq, pay23_eq, pay25_eq, pay27_eq, pay29_eq, pay30_eq, pay31_eq, pay32_eq, pay34_eq,
    pay36_eq, pay37_eq, pay38_eq, pay39_eq, pay42_eq, pay43_eq]
  simp (disch := rfl) only [gathered, offsets, pay51_eq, first52, pay53_eq, first54, pay55_eq, first56, pay57_eq, first58, pay59_eq, pay60_eq, pay61_eq,
    pay62_eq, pay63_eq, pay64_eq, pay67_eq, pay68_eq, pay69_eq, pay70_eq, pay71_eq, pay72_eq, pay73_eq, pay74_eq, candidates]
  simp only [noted, nine, dropC, noteC, sel, rd]

theorem out4_eq (y : S1x128x16.Idx) :
    out0_A_4 c i arg1 harg1 arg2 harg2 arg3 harg3 arg4 harg4 arg5 harg5 x0 x1 x2 y
      = scored (noted (near c i arg1 harg1 arg2 harg2 arg3 harg3 arg4 harg4 arg5 harg5 x1 x2) x0 x2) x0 x2 y := by
  frame_out
  unfold near
  generalize st_k0_t1 Variants.none c none i arg1 harg1 arg2 harg2 arg3 harg3 arg4 harg4 arg5 harg5 x2 (harg2.unread x1) k0_pay13
    (Scf.trips 0#32 (Scalar.addi 0#32 32#32) 1#32) = v
  simp only [pay21_eq, pay17_eq, pay19_eq, pay20_eq, pay23_eq, pay25_eq, pay27_eq, pay29_eq, pay30_eq, pay31_eq, pay32_eq, pay34_eq,
    pay36_eq, pay37_eq, pay38_eq, pay39_eq, pay42_eq, pay43_eq]
  simp (disch := rfl) only [gathered, offsets, pay51_eq, first52, pay53_eq, first54, pay55_eq, first56, pay57_eq, first58, pay59_eq, pay60_eq, pay61_eq,
    pay62_eq, pay63_eq, pay64_eq, pay67_eq, pay68_eq, pay69_eq, pay70_eq, pay71_eq, pay72_eq, pay73_eq, pay74_eq, candidates]
  unfold scored rows2
  simp only [noted, nine, dropC, noteC, sel, rd]

end

end Cert.Atss

end
-- ==== Proof.Selected.lean ====
/- The numbers the kernel notes are those of the nine predictions nearest to the box, in order. -/
module

public import proofs.«01_k».proof.Proof.Stage

@[expose] public section

set_option maxRecDepth 16384

noncomputable section

namespace Cert.Atss

open Idealize.ShloMosaic Idealize.SL.Sem Cert.KernelIdeal Cert.KernelIdeal.Gen Idealize.ShloMosaic.TcCoe

/-- The root is monotone. -/
theorem sqrt_le {x y : EReal} (h : x ≤ y) : Ideal.sqrt x ≤ Ideal.sqrt y := by
  induction x with
  | bot => exact bot_le
  | top => rw [top_le_iff.mp h]
  | coe a =>
    induction y with
    | bot => exact absurd h (by simp)
    | top => exact le_top
    | coe b =>
      have hab : a ≤ b := EReal.coe_le_coe_iff.mp h
      show (if a < 0 then (⊥ : EReal) else (Real.sqrt a : EReal)) ≤ if b < 0 then (⊥ : EReal) else (Real.sqrt b : EReal)
      split_ifs with h1 h2
      · exact bot_le
      · exact bot_le
      · exact absurd (lt_of_le_of_lt hab ‹b < 0›) h1
      · exact EReal.coe_le_coe_iff.mpr (Real.sqrt_le_sqrt hab)

/-- The distance of entry `e` of a list of boxes from the box `a`. -/
def dist (a : Fin 4 → EReal) {n : ℕ} (P : Fin n → Fin 4 → EReal) (e : Fin n) : EReal :=
  Ideal.sqrt (sq (a 0) (a 1) (P e 0) (P e 1))

theorem blockD_apply (v2 v3 : FVec Ideal S128x1 .f32) (r : FVec Ideal S1536x512 .f32) (j : ℕ) (hj : j < 12) (g : Fin 128) (o : ℕ) (ho : o < 256) :
    blockD v2 v3 r ⟨j, hj⟩ (ix2 g ⟨o, ho⟩) = Ideal.sqrt (sq (v2 (ix2 g 0)) (v3 (ix2 g 0))
      (r (ix2 ⟨128 * j + g.val, by show _ < 1536; omega⟩ ⟨o, by show _ < 512; omega⟩))
      (r (ix2 ⟨128 * j + g.val, by show _ < 1536; omega⟩ ⟨256 + o, by show _ < 512; omega⟩))) := by rfl

section
variable (c : Dev nD) (i : grid0.Coords)
  (arg1 : Memref sig .tc .vmem S1x392x1024 .f32) (harg1 : arg1.IsWhole)
  (arg2 : Memref sig .tc .vmem S1x4x256x392 .f32) (harg2 : arg2.IsWhole)
  (arg3 : Memref sig .tc .vmem S1x128x4 .f32) (harg3 : arg3.IsWhole)
  (arg4 : Memref sig .tc .vmem S1x128x16 .i32) (harg4 : arg4.IsWhole)
  (arg5 : Memref sig .tc .vmem S1x128x16 .f32) (harg5 : arg5.IsWhole)
  (x0 : Vec Ideal S1x392x1024 .f32) (x1 : Vec Ideal S1x4x256x392 .f32) (x2 : Vec Ideal S1x128x4 .f32)
  (P : Fin 100352 → Fin 4 → EReal)
  (h0 : ∀ (n : Fin 392) (d : Fin 4) (o : Fin 256), x0 (ix3 0 n ⟨256 * d.val + o.val, lt_coords d o⟩) = P ⟨256 * n.val + o.val, lt_entries n o⟩ d)
  (h1 : ∀ (n : Fin 392) (d : Fin 4) (o : Fin 256), x1 (ix4 0 d o n) = P ⟨256 * n.val + o.val, lt_entries n o⟩ d)
  (hP : ∀ e d, P e d ≠ ⊤ ∧ P e d ≠ ⊥)

include h1 in
/-- The block values are the least distances of the blocks' entries. -/
theorem near_apply (g : Fin 128) (n : Fin 392) :
    (∀ o : Fin 256, near c i arg1 harg1 arg2 harg2 arg3 harg3 arg4 harg4 arg5 harg5 x1 x2 (ix2 g n)
      ≤ dist (fun d => x2 (ix3 0 g d)) P ⟨256 * n.val + o.val, by omega⟩) ∧
    ∃ o : Fin 256, near c i arg1 harg1 arg2 harg2 arg3 harg3 arg4 harg4 arg5 harg5 x1 x2 (ix2 g n)
      = dist (fun d => x2 (ix3 0 g d)) P ⟨256 * n.val + o.val, by omega⟩ := by
  have hm := minima Variants.none c none i arg1 harg1 arg2 harg2 arg3 harg3 arg4 harg4 arg5 harg5 x2 x1 g n
  have ht : Scf.trips 0#32 (Scalar.addi 0#32 32#32) 1#32 = 32 := by decide +kernel
  have hn : near c i arg1 harg1 arg2 harg2 arg3 harg3 arg4 harg4 arg5 harg5 x1 x2 (ix2 g n)
      = Ideal.sqrt (st_k0_t1 Variants.none c none i arg1 harg1 arg2 harg2 arg3 harg3 arg4 harg4 arg5 harg5 x2 (harg2.unread x1) k0_pay13 32 (ix2 g n)) := by
    unfold near
    rw [ht]
    rfl
  have hd : ∀ o : Fin 256, Ideal.sqrt (dsq x1 x2 g n o) = dist (fun d => x2 (ix3 0 g d)) P ⟨256 * n.val + o.val, by omega⟩ := by
    intro o
    unfold dist dsq
    rw [h1, h1]
  rw [hn]
  refine ⟨fun o => ?_, ?_⟩
  · rw [← hd o]
    exact sqrt_le (hm.1 o)
  · obtain ⟨o, ho⟩ := hm.2
    exact ⟨o, by rw [ho, hd]⟩

include h0 h1 hP in
/-- An entry of which fewer than nine come before is noted at its place. -/
theorem noted_apply (g : Fin 128) (hD : ∀ e, dist (fun d => x2 (ix3 0 g d)) P e < ⊤) (k : Fin 9) (e : Fin 100352)
    (he : rank (key (dist (fun d => x2 (ix3 0 g d)) P) Fin.val) e = k.val) :
    noted (near c i arg1 harg1 arg2 harg2 arg3 harg3 arg4 harg4 arg5 harg5 x1 x2) x0 x2 (ix2 g ⟨k.val, by show _ < 16; omega⟩)
      = ((e.val : ℝ) : EReal) := by
  have hN := near_apply c i arg1 harg1 arg2 harg2 arg3 harg3 arg4 harg4 arg5 harg5 x1 x2 P h1 g
  generalize near c i arg1 harg1 arg2 harg2 arg3 harg3 arg4 harg4 arg5 harg5 x1 x2 = w at hN ⊢
  have hmv : ∀ n, row w g n < ⊤ := fun n => lt_of_le_of_lt ((hN n).1 0) (hD _)
  have hex : ∀ j : Fin 12, ∃ b : Fin 392, rank (key (row w g) Fin.val) b = j.val := fun j =>
    exists_rank (key_injective _ Fin.val_injective) (by rw [Fintype.card_fin]; omega)
  choose σ hσ using hex
  have hsel : ∀ j : Fin 12, sel w j.val (ix2 g 0) = (((σ j).val : ℝ) : EReal) := fun j => sel_row w g hmv (hσ j)
  have hσi : Function.Injective σ := fun a b h => Fin.ext (by rw [← hσ a, ← hσ b, h])
  let f : Fin 3072 → Fin 100352 := fun q => ⟨256 * (σ ⟨q.val / 256, by omega⟩).val + q.val % 256, by omega⟩
  have hfi : Function.Injective fun q => (f q).val := by
    intro q q' h
    have h' : 256 * (σ ⟨q.val / 256, by omega⟩).val + q.val % 256 = 256 * (σ ⟨q'.val / 256, by omega⟩).val + q'.val % 256 := h
    have h1 : σ ⟨q.val / 256, by omega⟩ = σ ⟨q'.val / 256, by omega⟩ := Fin.ext (by omega)
    have h2 := congrArg Fin.val (hσi h1)
    simp only at h2
    exact Fin.ext (by omega)
  have hrow : row2 (candD (k0_pay9 x2) (k0_pay10 x2) (rowsV w x0)) g = fun q => dist (fun d => x2 (ix3 0 g d)) P (f q) := by
    funext q
    have hx : ∀ (n : Fin 392) (d : Fin 4) (o : Fin 256), x0 (ix3 0 n ⟨256 * d.val + o.val, by show _ < 1024; omega⟩) ≠ ⊤ ∧
        x0 (ix3 0 n ⟨256 * d.val + o.val, by show _ < 1024; omega⟩) ≠ ⊥ := fun n d o => by rw [h0]; exact hP _ _
    have e0 := h0 (σ ⟨q.val / 256, by omega⟩) 0 ⟨q.val % 256, by omega⟩
    have e1 := h0 (σ ⟨q.val / 256, by omega⟩) 1 ⟨q.val % 256, by omega⟩
    have f0 := hx (σ ⟨q.val / 256, by omega⟩) 0 ⟨q.val % 256, by omega⟩
    have f1 := hx (σ ⟨q.val / 256, by omega⟩) 1 ⟨q.val % 256, by omega⟩
    simp only [Fin.val_zero, Fin.val_one, Nat.mul_zero, Nat.mul_one, Nat.zero_add] at e0 e1 f0 f1
    have r0 := rowsV_apply w x0 ⟨q.val / 256, by omega⟩ g ⟨q.val % 256, by omega⟩ _ (hsel _) f0.1 f0.2
    have r1 := rowsV_apply w x0 ⟨q.val / 256, by omega⟩ g ⟨256 + q.val % 256, by omega⟩ _ (hsel _) f1.1 f1.2
    rw [e0] at r0
    rw [e1] at r1
    unfold row2
    rw [candD_apply]
    have p0 : k0_pay9 x2 (ix2 g 0) = x2 (ix3 0 g 0) := by pointwise [k0_pay9, k0_pay8]
    have p1 : k0_pay10 x2 (ix2 g 0) = x2 (ix3 0 g 1) := by pointwise [k0_pay10, k0_pay8]
    rw [blockD_apply, p0, p1]
    unfold dist
    rw [show rowsV w x0 (ix2 ⟨128 * (q.val / 256) + g.val, by show _ < 1536; omega⟩ ⟨q.val % 256, by show _ < 512; omega⟩) = _ from r0,
      show rowsV w x0 (ix2 ⟨128 * (q.val / 256) + g.val, by show _ < 1536; omega⟩ ⟨256 + q.val % 256, by show _ < 512; omega⟩) = _ from r1]
  obtain ⟨q, hq, hr⟩ := rank_chosen (O := 256) (nB := 392) (J := 12) (dist (fun d => x2 (ix3 0 g d)) P) (row w g) σ (by norm_num)
    (fun e => by
      have := (hN ⟨e.val / 256, by omega⟩).1 ⟨e.val % 256, by omega⟩
      refine this.trans (le_of_eq (congrArg _ (Fin.ext ?_)))
      show 256 * (e.val / 256) + e.val % 256 = e.val
      omega)
    (fun b => by
      obtain ⟨o, ho⟩ := (hN b).2
      exact ⟨⟨256 * b.val + o.val, by omega⟩, by show (256 * b.val + o.val) / 256 = b.val; omega, ho⟩)
    hσ f (fun c => rfl) (e := e) (by rw [he]; omega)
  unfold noted
  rw [nine_apply (sel w) _ g (fun q => (f q).val) (fun q => candGI_apply _ g q _ (hsel ⟨q.val / 256, by omega⟩)) hfi
    (fun q => by rw [hrow]; exact hD _) (fun q => by have := (f q).isLt; omega) k.val k.isLt q (by rw [hrow, ← he]; exact hr), hq]

end

end Cert.Atss

end
-- ==== Proof.Prefix.lean ====
/- The blocks the kernel reads: the padded predictions, arranged in two ways, and the boxes. -/
module

public import proofs.«01_k».proof.Proof.Gen.KernelIdeal.Frame
public import Idealize.ShloMosaic.Lib.Pipeline.ValueKit
public import Idealize.ShloMosaic.Lib.Claim
public import proofs.«01_k».proof.Proof.Gather

@[expose] public section

set_option maxRecDepth 16384

noncomputable section

namespace Cert.Atss

open Idealize.ShloMosaic Idealize.SL.Sem Cert.KernelIdeal Cert.KernelIdeal.Gen Idealize.ShloMosaic.TcCoe

/-- The predictions of batch `b`, the entries past the last set to three. -/
def padded (X : FVec Ideal S2x100000x4 .f32) (b : Fin 2) (e : Fin 100352) (d : Fin 4) : EReal :=
  if h : e.val < 100000 then X (ix3 b ⟨e.val, h⟩ d) else Ideal.ofBits .f32 0x40400000#32

section
variable (m : (ℓ : Loc nD τ sig) → Buf (Elt Ideal) ℓ) (c : Dev nD) (t : Fin cfg0.N)

theorem points_two : cfg0.N = 2 := by decide +kernel

/-- The batch a grid point works on. -/
def batch : Fin 2 := ⟨t.val, lt_of_lt_of_eq t.isLt points_two⟩

theorem idx0 : ∀ t : Fin cfg0.N, ∀ a, win0_0.index t a = ![t.val, 0, 0] a := by decide +kernel
theorem idx1 : ∀ t : Fin cfg0.N, ∀ a, win0_1.index t a = ![t.val, 0, 0, 0] a := by decide +kernel
theorem idx2 : ∀ t : Fin cfg0.N, ∀ a, win0_2.index t a = ![t.val, 0, 0] a := by decide +kernel

theorem entry3 : (StableHlo.after [hostOps0, hostOps0_1, hostOps0_2].flatten (fun b => m (c, b)) (Proc.tc.devRef main_v3) : FVec Ideal S2x392x1024 .f32)
    = shapeCast S2x392x1024 (transpose S2x392x4x256 [0, 1, 3, 2] (shapeCast S2x392x256x4 (pad S2x100352x4 ![0, 0, 0] ![0, 352, 0] ![0, 0, 0]
        (m (c.tc.loc main_arg0) : FVec Ideal S2x100000x4 .f32) (constant (F := Ideal) S_ .f32 0x40400000#32) pads_S2x100000x4_S2x100352x4_000_03520_000 h_S_)
        shapeCasts_S2x100352x4_S2x392x256x4) transposes_S2x392x256x4_S2x392x4x256_0_1_3_2) shapeCasts_S2x392x4x256_S2x392x1024 := by
  show StableHlo.after (hostOps0 ++ hostOps0_1 ++ hostOps0_2) _ _ = _
  simp only [List.cons_append, List.nil_append]
  after_results
  rfl

theorem entry6 : (StableHlo.after [hostOps0, hostOps0_1, hostOps0_2].flatten (fun b => m (c, b)) (Proc.tc.devRef main_v6) : FVec Ideal S2x4x256x392 .f32)
    = transpose S2x4x256x392 [0, 1, 3, 2] (shapeCast S2x4x392x256 (transpose S2x4x100352 [0, 2, 1] (pad S2x100352x4 ![0, 0, 0] ![0, 352, 0] ![0, 0, 0]
        (m (c.tc.loc main_arg0) : FVec Ideal S2x100000x4 .f32) (constant (F := Ideal) S_ .f32 0x40400000#32) pads_S2x100000x4_S2x100352x4_000_03520_000 h_S_)
        transposes_S2x100352x4_S2x4x100352_0_2_1) shapeCasts_S2x4x100352_S2x4x392x256) transposes_S2x4x392x256_S2x4x256x392_0_1_3_2 := by
  show StableHlo.after (hostOps0 ++ hostOps0_1 ++ hostOps0_2) _ _ = _
  simp only [List.cons_append, List.nil_append]
  after_results
  rfl

theorem padded_apply (X : FVec Ideal S2x100000x4 .f32) (b : Fin 2) (e : Fin 100352) (d : Fin 4) :
    pad S2x100352x4 ![0, 0, 0] ![0, 352, 0] ![0, 0, 0] X (constant (F := Ideal) S_ .f32 0x40400000#32) pads_S2x100000x4_S2x100352x4_000_03520_000 h_S_
      (ix3 b e d) = padded X b e d := by
  pointwise [padded]

theorem read3 (Y : FVec Ideal S2x100352x4 .f32) (b : Fin 2) (n : Fin 392) (d : Fin 4) (o : Fin 256) :
    shapeCast S2x392x1024 (transpose S2x392x4x256 [0, 1, 3, 2] (shapeCast S2x392x256x4 Y
        shapeCasts_S2x100352x4_S2x392x256x4) transposes_S2x392x256x4_S2x392x4x256_0_1_3_2) shapeCasts_S2x392x4x256_S2x392x1024
         (ix3 b n ⟨256 * d.val + o.val, by show _ < 1024; omega⟩) = Y (ix3 b ⟨256 * n.val + o.val, by show _ < 100352; omega⟩ d) := by
  pointwise []
  simp only [Nat.mul_comm]

theorem read6 (Y : FVec Ideal S2x100352x4 .f32) (b : Fin 2) (n : Fin 392) (d : Fin 4) (o : Fin 256) :
    transpose S2x4x256x392 [0, 1, 3, 2] (shapeCast S2x4x392x256 (transpose S2x4x100352 [0, 2, 1] Y
        transposes_S2x100352x4_S2x4x100352_0_2_1) shapeCasts_S2x4x100352_S2x4x392x256) transposes_S2x4x392x256_S2x4x256x392_0_1_3_2
      (ix4 b d o n) = Y (ix3 b ⟨256 * n.val + o.val, by show _ < 100352; omega⟩ d) := by
  pointwise []
  simp only [Nat.mul_comm]

variable (t : Fin cfg0.N)

/-- The predicted boxes, a block of 256 to the row. -/
theorem block0 (n : Fin 392) (d : Fin 4) (o : Fin 256) :
    iblk m c 0 t (ix3 0 n ⟨256 * d.val + o.val, by show _ < 1024; omega⟩)
      = padded (m (c.tc.loc main_arg0)) (batch t) ⟨256 * n.val + o.val, by show _ < 100352; omega⟩ d := by
  have h : ((win0_0.blk t).view.emb (ix3 0 n ⟨256 * d.val + o.val, by show _ < 1024; omega⟩))
      = ix3 (batch t) n ⟨256 * d.val + o.val, by show _ < 1024; omega⟩ := by
    blk_ext [idx0, batch]
  show (StableHlo.after [hostOps0, hostOps0_1, hostOps0_2].flatten (fun b => m (c, b)) (Proc.tc.devRef main_v3)
    : FVec Ideal S2x392x1024 .f32) ((win0_0.blk t).view.emb _) = _
  rw [h, entry3, read3, padded_apply]

/-- The same boxes, a block to the column. -/
theorem block1 (n : Fin 392) (d : Fin 4) (o : Fin 256) :
    iblk m c 1 t (ix4 0 d o n)
      = padded (m (c.tc.loc main_arg0)) (batch t) ⟨256 * n.val + o.val, by show _ < 100352; omega⟩ d := by
  have h : ((win0_1.blk t).view.emb (ix4 0 d o n)) = ix4 (batch t) d o n := by
    blk_ext [idx1, batch]
  show (StableHlo.after [hostOps0, hostOps0_1, hostOps0_2].flatten (fun b => m (c, b)) (Proc.tc.devRef main_v6)
    : FVec Ideal S2x4x256x392 .f32) ((win0_1.blk t).view.emb _) = _
  rw [h, entry6, read6, padded_apply]

/-- The ground-truth boxes. -/
theorem block2 (g : Fin 128) (d : Fin 4) :
    iblk m c 2 t (ix3 0 g d) = m (c.tc.loc main_arg1) (ix3 (batch t) g d) := by
  have h : ((win0_2.blk t).view.emb (ix3 0 g d)) = ix3 (batch t) g d := by
    blk_ext [idx2, batch]
  show (V m c main_arg1 : FVec Ideal S2x128x4 .f32) ((win0_2.blk t).view.emb _) = _
  rw [h, V_main_arg1]

end

end Cert.Atss

end
-- ==== Proof.Nearest.lean ====
/- Under the precondition the padding is farther than every prediction: it changes no rank among the predictions. -/
module

public import proofs.«01_k».proof.Proof.Within
public import proofs.«01_k».proof.Proof.Selected
public import proofs.«01_k».proof.Proof.Prefix

@[expose] public section

set_option maxRecDepth 16384

noncomputable section

namespace Cert.Atss

open Idealize.ShloMosaic

theorem real_unit {x : EReal} (h0 : 0 ≤ x) (h1 : x ≤ 1) : ∃ r : ℝ, x = (r : EReal) ∧ 0 ≤ r ∧ r ≤ 1 := by
  induction x with
  | bot => exact absurd h0 (by simp)
  | top => exact absurd h1 (not_le.mpr (EReal.coe_one ▸ EReal.coe_lt_top 1))
  | coe r => exact ⟨r, rfl, by exact_mod_cast h0, by exact_mod_cast h1⟩

/-- The distance of real centres is a real root. -/
theorem dist_real (a : Fin 4 → EReal) {n : ℕ} (P : Fin n → Fin 4 → EReal) (e : Fin n) (u v x y : ℝ) (hu : a 0 = (u : EReal)) (hv : a 1 = (v : EReal))
    (hx : P e 0 = (x : EReal)) (hy : P e 1 = (y : EReal)) :
    dist a P e = ((Real.sqrt ((u - x) * (u - x) + (v - y) * (v - y)) : ℝ) : EReal) := by
  unfold dist sq
  rw [hu, hv, hx, hy, ← EReal.coe_sub, ← EReal.coe_sub, ← EReal.coe_mul, ← EReal.coe_mul, ← EReal.coe_add]
  show (if (u - x) * (u - x) + (v - y) * (v - y) < 0 then (⊥ : EReal) else ((Real.sqrt ((u - x) * (u - x) + (v - y) * (v - y)) : ℝ) : EReal)) = _
  rw [if_neg (by nlinarith [mul_self_nonneg (u - x), mul_self_nonneg (v - y)])]

section
variable [Cert.Pre_centres_in_unit_square.Facts] (X : FVec Ideal Cert.KernelIdeal.S2x100000x4 .f32) (Y : FVec Ideal Cert.KernelIdeal.S2x128x4 .f32)
  (h : Cert.Pre_centres_in_unit_square.fn X Y = fun _ => 1#1) (b : Fin 2)

/-- The predictions of one batch. -/
def listed (e : Fin 100000) (d : Fin 4) : EReal := X (ix3 b e d)

/-- One box of that batch. -/
def boxed (g : Fin 128) (d : Fin 4) : EReal := Y (ix3 b g d)

/-- A prediction's place in the padded list. -/
def placed (e : Fin 100000) : Fin 100352 := ⟨e.val, by omega⟩

theorem padded_placed (e : Fin 100000) : padded X b (placed e) = listed X b e := by
  funext d
  unfold padded
  rw [dif_pos (show (placed e).val < 100000 from e.isLt)]
  rfl

theorem padded_beyond (e : Fin 100352) (he : ¬ e.val < 100000) (d : Fin 4) : padded X b e d = ((3 : ℝ) : EReal) := by
  unfold padded
  rw [dif_neg he, word_three]

include h

theorem padded_finite (e : Fin 100352) (d : Fin 4) : padded X b e d ≠ ⊤ ∧ padded X b e d ≠ ⊥ := by
  by_cases he : e.val < 100000
  · unfold padded
    rw [dif_pos he]
    by_cases hd : d.val < 2
    · obtain ⟨r, hr, -⟩ := real_unit (centre_pred X Y h b ⟨e.val, he⟩ ⟨d.val, hd⟩).1 (centre_pred X Y h b ⟨e.val, he⟩ ⟨d.val, hd⟩).2
      rw [show X (ix3 b ⟨e.val, he⟩ d) = (r : EReal) from hr]
      exact ⟨EReal.coe_ne_top r, EReal.coe_ne_bot r⟩
    · have h2 := size_pred X Y h b ⟨e.val, he⟩ ⟨d.val - 2, by omega⟩
      have hd' : (⟨2 + (d.val - 2), by omega⟩ : Fin 4) = d := Fin.ext (by show 2 + (d.val - 2) = d.val; omega)
      simp only [hd'] at h2
      exact h2
  · rw [padded_beyond X b e he]
    exact ⟨EReal.coe_ne_top 3, EReal.coe_ne_bot 3⟩

theorem dist_finite (g : Fin 128) (e : Fin 100352) : dist (boxed Y b g) (padded X b) e < ⊤ := by
  obtain ⟨u, hu, -⟩ := real_unit (centre_gt X Y h b g 0).1 (centre_gt X Y h b g 0).2
  obtain ⟨v, hv, -⟩ := real_unit (centre_gt X Y h b g 1).1 (centre_gt X Y h b g 1).2
  have hp := padded_finite X Y h b e
  obtain ⟨x, hx⟩ : ∃ x : ℝ, padded X b e 0 = (x : EReal) := ⟨_, (EReal.coe_toReal (hp 0).1 (hp 0).2).symm⟩
  obtain ⟨y, hy⟩ : ∃ y : ℝ, padded X b e 1 = (y : EReal) := ⟨_, (EReal.coe_toReal (hp 1).1 (hp 1).2).symm⟩
  rw [dist_real (boxed Y b g) (padded X b) e u v x y hu hv hx hy]
  exact EReal.coe_lt_top _

/-- Every prediction is nearer than every padding entry. -/
theorem nearer (g : Fin 128) (e : Fin 100000) (i : Fin 100352) (hi : ¬ i.val < 100000) :
    dist (boxed Y b g) (padded X b) (placed e) < dist (boxed Y b g) (padded X b) i := by
  obtain ⟨u, hu, hu0, hu1⟩ := real_unit (centre_gt X Y h b g 0).1 (centre_gt X Y h b g 0).2
  obtain ⟨v, hv, hv0, hv1⟩ := real_unit (centre_gt X Y h b g 1).1 (centre_gt X Y h b g 1).2
  obtain ⟨x, hx, hx0, hx1⟩ := real_unit (centre_pred X Y h b e 0).1 (centre_pred X Y h b e 0).2
  obtain ⟨y, hy, hy0, hy1⟩ := real_unit (centre_pred X Y h b e 1).1 (centre_pred X Y h b e 1).2
  rw [dist_real (boxed Y b g) (padded X b) (placed e) u v x y hu hv (by rw [padded_placed]; exact hx) (by rw [padded_placed]; exact hy),
    dist_real (boxed Y b g) (padded X b) i u v 3 3 hu hv (padded_beyond X b i hi 0) (padded_beyond X b i hi 1)]
  refine EReal.coe_lt_coe_iff.mpr (Real.sqrt_lt_sqrt (by nlinarith [mul_self_nonneg (u - x), mul_self_nonneg (v - y)]) ?_)
  have a1 : (u - x) * (u - x) ≤ 1 := by nlinarith
  have a2 : (v - y) * (v - y) ≤ 1 := by nlinarith
  have b1 : 4 ≤ (u - 3) * (u - 3) := by nlinarith
  have b2 : 4 ≤ (v - 3) * (v - 3) := by nlinarith
  linarith

/-- A prediction has the same rank in the padded list as among the predictions. -/
theorem rank_placed (g : Fin 128) (e : Fin 100000) :
    rank (key (dist (boxed Y b g) (listed X b)) Fin.val) e = rank (key (dist (boxed Y b g) (padded X b)) Fin.val) (placed e) := by
  have hd : ∀ e, dist (boxed Y b g) (padded X b) (placed e) = dist (boxed Y b g) (listed X b) e := by
    intro e
    unfold dist
    rw [padded_placed]
  refine rank_embed (k := key (dist (boxed Y b g) (padded X b)) Fin.val) (k' := key (dist (boxed Y b g) (listed X b)) Fin.val) placed
    (fun x y hxy => Fin.ext (show (placed x).val = (placed y).val from congrArg Fin.val hxy)) (fun x y => ?_) e (fun i hi => ?_)
  · rw [key_lt, key_lt, hd, hd]
    rfl
  · by_cases hi' : i.val < 100000
    · exact ⟨⟨i.val, hi'⟩, rfl⟩
    · have hn := nearer X Y h b g e i hi'
      rcases key_lt.mp hi with h1 | ⟨h1, -⟩
      · exact absurd h1 (not_lt.mpr hn.le)
      · exact absurd hn (not_lt.mpr h1.le)

end

end Cert.Atss

end
-- ==== Proof.Outputs.lean ====
/- What the kernel's body writes for one noted prediction: its number, and the score of its box. -/
module

public import proofs.«01_k».proof.Proof.Selected

@[expose] public section

set_option maxRecDepth 16384

noncomputable section

namespace Cert.Atss

open Idealize.ShloMosaic Idealize.SL.Sem Cert.KernelIdeal Cert.KernelIdeal.Gen Idealize.ShloMosaic.TcCoe

/-- A small natural number becomes the word of that number. -/
theorem fptosi_nat (n : ℕ) (hn : n < 2 ^ 31) : Ideal.fptosi 32 ((n : ℝ) : EReal) = BitVec.ofNat 32 n := by
  rw [Ideal.fptosi, Ideal.toIntClamped_coe, if_pos (Nat.cast_nonneg n), Int.floor_natCast]
  have h : max (-((2 ^ (32 - 1) : ℕ) : ℤ)) (min (((2 ^ (32 - 1) : ℕ) : ℤ) - 1) (n : ℤ)) = (n : ℤ) := by
    rw [min_eq_right (by norm_num; omega), max_eq_right (by norm_num)]
  rw [h]
  exact BitVec.ofInt_natCast 32 n

theorem pay107_apply (a : FVec Ideal S128x16 .f32) (g : Fin 128) (k : Fin 16) (n : ℕ) (hn : n < 2 ^ 31) (ha : a (ix2 g k) = ((n : ℝ) : EReal)) :
    k0_pay107 a (ix3 0 g k) = BitVec.ofNat 32 n := by
  pointwise [k0_pay107]
  rw [ha]
  exact fptosi_nat n hn

section
variable (a : FVec Ideal S128x16 .f32) (x0 : Vec Ideal S1x392x1024 .f32) (P : Fin 100352 → Fin 4 → EReal)
  (h0 : ∀ (n : Fin 392) (d : Fin 4) (o : Fin 256), x0 (ix3 0 n ⟨256 * d.val + o.val, lt_coords d o⟩) = P ⟨256 * n.val + o.val, lt_entries n o⟩ d)
  (hP : ∀ e d, P e d ≠ ⊤ ∧ P e d ≠ ⊥)

include h0 in
/-- An entry's coordinate, read where the blocks hold it. -/
theorem entry_at (e : Fin 100352) (d : Fin 4) (j : ℕ) (hj : j = 256 * d.val + e.val % 256) :
    x0 (ix3 0 ⟨e.val / 256, by show _ < 392; omega⟩ ⟨j, by show _ < 1024; omega⟩) = P e d := by
  subst hj
  refine (h0 ⟨e.val / 256, by omega⟩ d ⟨e.val % 256, by omega⟩).trans ?_
  congr 1
  exact Fin.ext (by show 256 * (e.val / 256) + e.val % 256 = e.val; omega)

include h0 hP in
/-- The gathered row of a noted entry holds its coordinates. -/
theorem rows2_at (g : Fin 128) (k : Fin 9) (e : Fin 100352) (ha : a (ix2 g ⟨k.val, by show _ < 16; omega⟩) = ((e.val : ℝ) : EReal)) (d : Fin 4)
    (j : ℕ) (hj : j = 256 * d.val + e.val % 256) :
    rows2 a x0 (ix2 ⟨128 * k.val + g.val, by show _ < 1152; omega⟩ ⟨j, by show _ < 1024; omega⟩) = P e d := by
  have h := entry_at x0 P h0 e d j hj
  refine (pay86_apply a k g e.isLt ha x0 _ (by have := e.isLt; omega) ?_ ?_).trans h
  · exact fun h' => (hP e d).1 (h.symm.trans h')
  · exact fun h' => (hP e d).2 (h.symm.trans h')

include h0 hP in
/-- The score written for box `g` and its `k`-th prediction. -/
theorem scored_apply (gt : Vec Ideal S1x128x4 .f32) (g : Fin 128) (e : Fin 9 → Fin 100352)
    (ha : ∀ k : Fin 9, a (ix2 g ⟨k.val, by show _ < 16; omega⟩) = (((e k).val : ℝ) : EReal)) (k : Fin 9) :
    scored a x0 gt (ix3 0 g ⟨k.val, by show _ < 16; omega⟩) = score (fun d => gt (ix3 0 g d)) (fun k => P (e k)) k := by
  have ho : ∀ k, (e k).val % 256 < 256 := fun k => Nat.mod_lt _ (by norm_num)
  have hv : ∀ k : Fin 9, ∀ x, k0_pay88 a (ix2 ⟨128 * k.val + g.val, by show _ < 1152; omega⟩ x) = ((((e k).val % 256 : ℕ) : ℝ) : EReal) :=
    fun k x => pay88_apply a k g (e k).isLt (ha k) x
  exact pay108_apply gt _ _ _ _ _ (fun d => gt (ix3 0 g d)) (fun k => P (e k)) g (fun _ => rfl)
    (fun k => (pay90_apply (rows2 a x0) (k0_pay88 a) k g _ (ho k) (hv k)).trans (rows2_at a x0 P h0 hP g k (e k) (ha k) 0 _ (by simp)))
    (fun k => (pay91_apply (rows2 a x0) (k0_pay88 a) k g _ (ho k) (hv k)).trans (rows2_at a x0 P h0 hP g k (e k) (ha k) 1 _ (by simp)))
    (fun k => (pay92_apply (rows2 a x0) (k0_pay88 a) k g _ (ho k) (hv k)).trans (rows2_at a x0 P h0 hP g k (e k) (ha k) 2 _ (by simp)))
    (fun k => (pay95_apply (rows2 a x0) (k0_pay88 a) k g _ (ho k) (hv k)).trans (rows2_at a x0 P h0 hP g k (e k) (ha k) 3 _ (by simp))) k

end

end Cert.Atss

end
-- ==== Proof.Launch.lean ====
/- The kernel's run: both results are the leading nine columns of what the body writes at each batch. -/
module

public import proofs.«01_k».proof.Proof.Prefix

@[expose] public section

set_option maxRecDepth 16384

noncomputable section

namespace Cert.Atss

open Idealize.ShloMosaic Idealize.SL.Sem Cert.KernelIdeal Cert.KernelIdeal.Gen Idealize.ShloMosaic.TcCoe

section
variable (m : (ℓ : Loc nD τ sig) → Buf (Elt Ideal) ℓ) (c : Dev nD)

/-- The grid point that works on batch `b`. -/
def point (b : Fin 2) : Fin cfg0.N := ⟨b.val, lt_of_lt_of_eq b.isLt points_two.symm⟩

/-- The numbers written, over both batches. -/
def allNumbers : S2x128x16.Idx → BitVec 32 := fun i => (outsAt0 m c (point (i 0))).1 (ix3 0 (i 1) (i 2))

/-- The scores written, over both batches. -/
def allScores : S2x128x16.Idx → EReal := fun i => (outsAt0 m c (point (i 0))).2 (ix3 0 (i 1) (i 2))

theorem idx3 : ∀ t : Fin cfg0.N, ∀ a, win0_3.index t a = ![t.val, 0, 0] a := by decide +kernel
theorem idx4 : ∀ t : Fin cfg0.N, ∀ a, win0_4.index t a = ![t.val, 0, 0] a := by decide +kernel

theorem emb3 (t : Fin cfg0.N) (y : S1x128x16.Idx) : ((win0_3.blk t).view.emb y) = ix3 (batch t) (y 1) (y 2) := by
  blk_ext [idx3, batch]

theorem emb4 (t : Fin cfg0.N) (y : S1x128x16.Idx) : ((win0_4.blk t).view.emb y) = ix3 (batch t) (y 1) (y 2) := by
  blk_ext [idx4, batch]

theorem own (y : S1x128x16.Idx) : y = ix3 0 (y 1) (y 2) := by
  funext a
  fin_vals a with ha
  · obtain rfl : a = 0 := Fin.ext ha
    exact Subsingleton.elim (α := Fin 1) _ _
  · obtain rfl : a = 1 := Fin.ext ha
    rfl
  · obtain rfl : a = 2 := Fin.ext ha
    rfl

theorem numbers_at (t : Fin cfg0.N) (y : S1x128x16.Idx) : (outsAt0 m c t).1 y = allNumbers m c (ix3 (batch t) (y 1) (y 2)) := by
  rw [own y]
  rfl

theorem scores_at (t : Fin cfg0.N) (y : S1x128x16.Idx) : (outsAt0 m c t).2 y = allScores m c (ix3 (batch t) (y 1) (y 2)) := by
  rw [own y]
  rfl

theorem numbers_array : (dats m 0 c).arrAt 3 cfg0.N = (allNumbers m c : Vec Ideal S2x128x16 .i32) := by
  refine (dats m 0 c).arrAt_eq_of_covers 3 _ (by decide +kernel) fun t hf y => ?_
  rw [after0_3]
  exact (numbers_at m c t y).trans (congrArg (allNumbers m c) (emb3 t y).symm)

theorem scores_array : (dats m 0 c).arrAt 4 cfg0.N = (allScores m c : Vec Ideal S2x128x16 .f32) := by
  refine (dats m 0 c).arrAt_eq_of_covers 4 _ (by decide +kernel) fun t hf y => ?_
  rw [after0_4]
  exact (scores_at m c t y).trans (congrArg (allScores m c) (emb4 t y).symm)

theorem arrays_distinct : Function.Injective (Pipeline.arrRef (cfgs 0).spec) := by decide +kernel

/-- The kernel's run: numbers and scores, and its arguments as they were. -/
theorem kernel_run (g : Dev nD → PrngReg) :
    θ_run defs (onTc (τ := τ) (main (F := Ideal))) ⟨m, fun _ => 0, g⟩ fun r => ∀ c : Dev nD,
      r.2.mem ((c.tc : Thread nD τ).loc main_v8) = extractStridedSlice S2x128x9 ![0, 0, 0] (allNumbers m c : Vec Ideal S2x128x16 .i32) slices_S2x128x16_S2x128x9_0_0_0
      ∧ r.2.mem ((c.tc : Thread nD τ).loc main_v9) = extractStridedSlice S2x128x9 ![0, 0, 0] (allScores m c : Vec Ideal S2x128x16 .f32) slices_S2x128x16_S2x128x9_0_0_0
      ∧ r.2.mem ((c.tc : Thread nD τ).loc main_arg0) = m ((c.tc : Thread nD τ).loc main_arg0)
      ∧ r.2.mem ((c.tc : Thread nD τ).loc main_arg1) = m ((c.tc : Thread nD τ).loc main_arg1) := by
  run_from Cert.KernelIdeal.Gen.run_main m g
  · unfold Pipeline.afterTail₀
    show StableHlo.after hostOps1 _ _ = _
    after_results
    have h : Pipeline.withArrays (cfgs 0).spec c (V0 m c) (fun w => (dats m 0 c).arrAt w (cfgs 0).N) (Proc.tc.devRef main_v7_0)
        = (dats m 0 c).arrAt 3 cfg0.N := Pipeline.withArrays_arr (cfgs 0).spec arrays_distinct c (V0 m c) _ 3
    rw [h, numbers_array]
  · unfold Pipeline.afterTail₀
    show StableHlo.after hostOps1 _ _ = _
    after_results
    have h : Pipeline.withArrays (cfgs 0).spec c (V0 m c) (fun w => (dats m 0 c).arrAt w (cfgs 0).N) (Proc.tc.devRef main_v7_1)
        = (dats m 0 c).arrAt 4 cfg0.N := Pipeline.withArrays_arr (cfgs 0).spec arrays_distinct c (V0 m c) _ 4
    rw [h, scores_array]
  · exact W_main_arg0 m (dats m) c

end

end Cert.Atss

end
-- ==== Proof.Values.lean ====
/- The kernel's results: at place `k` the prediction of rank `k`, and the score of its box. -/
module

public import proofs.«01_k».proof.Proof.Nearest
public import proofs.«01_k».proof.Proof.Outputs
public import proofs.«01_k».proof.Proof.Launch

@[expose] public section

set_option maxRecDepth 16384

noncomputable section

namespace Cert.Atss

open Idealize.ShloMosaic Idealize.SL.Sem Cert.KernelIdeal Cert.KernelIdeal.Gen Idealize.ShloMosaic.TcCoe

section
variable [Cert.Pre_centres_in_unit_square.Facts] (m : (ℓ : Loc nD τ sig) → Buf (Elt Ideal) ℓ) (c : Dev nD)
  (X : FVec Ideal S2x100000x4 .f32) (hX : m (c.tc.loc main_arg0) = X)
  (Y : FVec Ideal S2x128x4 .f32) (hY : m (c.tc.loc main_arg1) = Y)
  (h : Cert.Pre_centres_in_unit_square.fn X Y = fun _ => 1#1) (b : Fin 2) (g : Fin 128)

include hX in
theorem read0 (t : Fin cfg0.N) (n : Fin 392) (d : Fin 4) (o : Fin 256) :
    iblk m c 0 t (ix3 0 n ⟨256 * d.val + o.val, lt_coords d o⟩) = padded X (batch t) ⟨256 * n.val + o.val, lt_entries n o⟩ d := by
  rw [← hX]
  exact block0 m c t n d o

include hX in
theorem read1 (t : Fin cfg0.N) (n : Fin 392) (d : Fin 4) (o : Fin 256) :
    iblk m c 1 t (ix4 0 d o n) = padded X (batch t) ⟨256 * n.val + o.val, lt_entries n o⟩ d := by
  rw [← hX]
  exact block1 m c t n d o

include hY in
theorem read2 (t : Fin cfg0.N) : (fun d => iblk m c 2 t (ix3 0 g d)) = boxed Y (batch t) g := by
  rw [← hY]
  funext d
  exact block2 m c t g d

include hX hY h in
/-- The number noted at grid point `t` for a prediction of rank `k`. -/
theorem noted_value (t : Fin cfg0.N) (k : Fin 9) (e : Fin 100000)
    (he : rank (key (dist (boxed Y (batch t) g) (listed X (batch t))) Fin.val) e = k.val) :
    noted (near c (grid0.coords t) (ms0_0 t) (hs0_0 t) (ms0_1 t) (hs0_1 t) (ms0_2 t) (hs0_2 t) (ms0_3 t) (hs0_3 t) (ms0_4 t) (hs0_4 t)
      (iblk m c 1 t) (iblk m c 2 t)) (iblk m c 0 t) (iblk m c 2 t) (ix2 g ⟨k.val, lt_cols k⟩) = (((placed e).val : ℝ) : EReal) := by
  refine noted_apply c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (padded X (batch t)) (read0 m c X hX t) (read1 m c X hX t) (padded_finite X Y h (batch t)) g ?_ k (placed e) ?_
  · rw [read2 m c Y hY g t]
    exact dist_finite X Y h (batch t) g
  · rw [read2 m c Y hY g t, ← rank_placed X Y h (batch t) g e]
    exact he

include hX hY h in
theorem number_value (t : Fin cfg0.N) (k : Fin 9) (e : Fin 100000)
    (he : rank (key (dist (boxed Y (batch t) g) (listed X (batch t))) Fin.val) e = k.val) :
    (outsAt0 m c t).1 (ix3 0 g ⟨k.val, lt_cols k⟩) = BitVec.ofNat 32 e.val := by
  unfold outsAt0
  dsimp only
  rw [out3_eq]
  exact pay107_apply _ g ⟨k.val, lt_cols k⟩ e.val (by omega) (noted_value m c X hX Y hY h g t k e he)

include hX hY h in
theorem score_value (t : Fin cfg0.N) (e : Fin 9 → Fin 100000)
    (he : ∀ k, rank (key (dist (boxed Y (batch t) g) (listed X (batch t))) Fin.val) (e k) = k.val) (k : Fin 9) :
    (outsAt0 m c t).2 (ix3 0 g ⟨k.val, lt_cols k⟩) = score (boxed Y (batch t) g) (fun k => listed X (batch t) (e k)) k := by
  unfold outsAt0
  dsimp only
  rw [out4_eq]
  refine (scored_apply _ (iblk m c 0 t) (padded X (batch t)) (read0 m c X hX t) (padded_finite X Y h (batch t)) (iblk m c 2 t) g (fun k => placed (e k))
    (fun k => noted_value m c X hX Y hY h g t k (e k) (he k)) k).trans ?_
  rw [read2 m c Y hY g t]
  simp only [padded_placed]

include hX hY h in
/-- The kernel's first result. -/
theorem first_result (k : Fin 9) (e : Fin 100000) (he : rank (key (dist (boxed Y b g) (listed X b)) Fin.val) e = k.val) :
    extractStridedSlice S2x128x9 ![0, 0, 0] (allNumbers m c : Vec Ideal S2x128x16 .i32) slices_S2x128x16_S2x128x9_0_0_0 (ix3 b g k)
      = BitVec.ofNat 32 e.val := by
  pointwise []
  exact number_value m c X hX Y hY h g (point b) k e he

include hX hY h in
/-- The kernel's second result. -/
theorem second_result (e : Fin 9 → Fin 100000) (he : ∀ k, rank (key (dist (boxed Y b g) (listed X b)) Fin.val) (e k) = k.val) (k : Fin 9) :
    extractStridedSlice S2x128x9 ![0, 0, 0] (allScores m c : Vec Ideal S2x128x16 .f32) slices_S2x128x16_S2x128x9_0_0_0 (ix3 b g k)
      = score (boxed Y b g) (fun k => listed X b (e k)) k := by
  pointwise []
  exact score_value m c X hX Y hY h g (point b) e he k

end

end Cert.Atss

end
-- ==== Proof.RefScore.lean ====
/- The reference's second result is the score of the boxes it gathers. -/
module

public import proofs.«01_k».proof.Proof.Gen.ReferenceIdeal.Run
public import proofs.«01_k».proof.Proof.Score

@[expose] public section

set_option maxRecDepth 16384

noncomputable section

namespace Cert.Atss

open Idealize.ShloMosaic Idealize.ShloMosaic.StableHlo Idealize.SL.Sem Cert.ReferenceIdeal Cert.ReferenceIdeal.Value Idealize.ShloMosaic.TcCoe

section
variable (V0 : Valuation τ sig (Elt Ideal))

/-- Ground-truth box `g` of batch `b`. -/
def gtBox (b : Fin 2) (g : Fin 128) : Fin 4 → EReal := fun d => (V0 (Proc.devRef .tc main_arg1) : FVec Ideal S2x128x4 .f32) (ix3 b g d)

/-- The boxes the reference gathers for box `g` of batch `b`. -/
def refBox (b : Fin 2) (g : Fin 128) (k : Fin 9) : Fin 4 → EReal := fun d => (res_main_v17 V0 : FVec Ideal S2x128x9x4 .f32) (ix4 b g k d)

theorem zero_at : (id (constant (F := Ideal) S_ FTy.f32 0#32) : FVec Ideal S_ .f32) ix0 = 0 := by
  show Ideal.ofBits .f32 0#32 = 0
  simp [Ideal.ofBits, Ideal.ieee]

theorem v111_apply (b : Fin 2) (g : Fin 128) (k : Fin 9) :
    (res_main_v111 V0 : FVec Ideal S2x128x9 .f32) (ix3 b g k) = iou (gtBox V0 b g) (refBox V0 b g k) := by
  pointwise [res_main_v111, res_main_v84, res_main_v79, res_main_v67, res_main_v42, res_main_v50, res_main_v48, res_main_v46, res_main_v44, res_main_v25,
    res_main_v23, res_main_v21, res_main_v19]
  simp only [zero_at]
  rfl

theorem eight : Ideal.ofBits .f32 0x41100000#32 - FloatOps.sitofp (F := Ideal) .f32 (1#32) = Ideal.ofBits .f32 0x41000000#32 := by
  have h9 : Ideal.ofBits .f32 0x41100000#32 = ((9 : ℝ) : EReal) := by simp [Ideal.ofBits, Ideal.ieee, -EReal.coe_mul]; norm_num
  have h8 : Ideal.ofBits .f32 0x41000000#32 = ((8 : ℝ) : EReal) := by simp [Ideal.ofBits, Ideal.ieee, -EReal.coe_mul]; norm_num
  have h1 := sitofp_ofNat 1 (by norm_num)
  rw [h9, h8, show (1#32) = BitVec.ofNat 32 1 from rfl, h1, ← EReal.coe_sub]
  norm_num

theorem eight_pos : (0 : EReal) < Ideal.ofBits .f32 0x41000000#32 := by
  have h8 : Ideal.ofBits .f32 0x41000000#32 = ((8 : ℝ) : EReal) := by simp [Ideal.ofBits, Ideal.ieee, -EReal.coe_mul]; norm_num
  rw [h8]
  exact_mod_cast (by norm_num : (0 : ℝ) < 8)

/-- The reference's run: the indices, the scores, and its arguments as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_indices) = res_main_indices (launchContents m c)
      ∧ (∀ b g k, (r.2.mem ((c.tc : Thread nD τ).loc main_v148) : FVec Ideal S2x128x9 .f32) (ix3 b g k)
          = score (gtBox (launchContents m c) b g) (refBox (launchContents m c) b g) k)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1, fun b g k => ?_, (h c).2.2⟩) (Value.run m ρ)
  rw [(h c).2.1]
  generalize launchContents m c = V0
  pointwise [res_main_call1_call0_v5, res_main_call1_call0_v8, res_main_v118, res_main_v120, res_main_v42, res_main_v25,
    res_main_v23, res_main_v21, res_main_v19]
  simp only [v111_apply, eight, if_pos eight_pos, zero_at]
  exact select_and _ _ _ _ _ _ _

end

end Cert.Atss

end
-- ==== Proof.Order.lean ====
/- The stable sort of a fiber puts at each place the position of that rank. -/
module

public import proofs.«01_k».proof.Proof.Rank
public import Idealize.ShloMosaic.Lib.SortFacts

@[expose] public section

noncomputable section

namespace Cert.Atss

open Idealize.ShloMosaic

section
variable {ι β : Type} [LinearOrder β] (K : ι → β) (before : ι → ι → Bool)

/-- Inserting an element into an ordered list leaves it ordered, when the comparison agrees with the order. -/
theorem ordered_insert (a : ι) (l : List ι) (hl : l.Pairwise fun x y => K x < K y)
    (h : ∀ b ∈ l, (before b a = true ↔ K b < K a) ∧ K b ≠ K a) : (insertBefore before a l).Pairwise fun x y => K x < K y := by
  induction l with
  | nil => exact List.pairwise_singleton _ _
  | cons b l ih =>
    rw [List.pairwise_cons] at hl
    have hb := h b List.mem_cons_self
    unfold insertBefore
    split
    · next hba =>
      refine List.pairwise_cons.mpr ⟨fun x hx => ?_, ih hl.2 fun x hx => h x (List.mem_cons_of_mem _ hx)⟩
      rcases List.mem_cons.mp ((perm_insertBefore before a l).mem_iff.mp hx) with rfl | hx'
      · exact hb.1.mp hba
      · exact hl.1 x hx'
    · next hba =>
      have hab : K a < K b := lt_of_le_of_ne (not_lt.mp fun hlt => hba (hb.1.mpr hlt)) hb.2.symm
      refine List.pairwise_cons.mpr ⟨fun x hx => ?_, List.pairwise_cons.mpr hl⟩
      rcases List.mem_cons.mp hx with rfl | hx'
      · exact hab
      · exact hab.trans (hl.1 x hx')

theorem ordered_sort (l : List ι) (hl : l.Pairwise fun a b => (before b a = true ↔ K b < K a) ∧ K b ≠ K a) :
    (stableSort before l).Pairwise fun x y => K x < K y := by
  induction l with
  | nil => exact List.Pairwise.nil
  | cons a l ih =>
    rw [List.pairwise_cons] at hl
    unfold stableSort
    exact ordered_insert K before a _ (ih hl.2) fun b hb => hl.1 b ((perm_stableSort before l).mem_iff.mp hb)

end

/-- Sorting by the values, the earlier position first among equals, is sorting by value and position. -/
theorem rank_sortedFrom {n : ℕ} (v : Fin n → EReal) (before : Fin n → Fin n → Bool) (hb : ∀ a b, before a b = true ↔ v a < v b) (j : Fin n) :
    rank (key v Fin.val) (sortedFrom before j) = j.val := by
  have hs : (sortPositions n before).Pairwise fun x y => key v Fin.val x < key v Fin.val y := by
    refine ordered_sort (key v Fin.val) before _ ((List.pairwise_lt_finRange n).imp fun {a b} hab => ⟨?_, ?_⟩)
    · rw [hb, key_lt]
      constructor
      · exact Or.inl
      · rintro (h | ⟨_, h⟩)
        · exact h
        · exact absurd hab (not_lt.mpr (le_of_lt h))
    · intro h
      exact absurd (key_injective v Fin.val_injective h) (ne_of_gt hab)
  have hm : ∀ a b : Fin n, a < b → key v Fin.val (sortedFrom before a) < key v Fin.val (sortedFrom before b) := by
    intro a b hab
    unfold sortedFrom
    exact List.pairwise_iff_get.mp hs _ _ hab
  have hmono : StrictMono fun a => key v Fin.val (sortedFrom before a) := fun a b hab => hm a b hab
  have h := rank_embed (k := key v Fin.val) (k' := fun a => key v Fin.val (sortedFrom before a)) (sortedFrom before) (sortedFrom_injective before)
    (fun a b => Iff.rfl) j (fun i _ => sortedFrom_surjective before i)
  rw [← h]
  unfold rank
  have e : (Finset.univ.filter fun i : Fin n => key v Fin.val (sortedFrom before i) < key v Fin.val (sortedFrom before j)) = Finset.Iio j := by
    ext i
    rw [Finset.mem_filter, Finset.mem_Iio]
    exact ⟨fun h => hmono.lt_iff_lt.mp h.2, fun h => ⟨Finset.mem_univ _, hmono.lt_iff_lt.mpr h⟩⟩
  rw [e, Fin.card_Iio]

end Cert.Atss

end
-- ==== Proof.RefOrder.lean ====
/- The reference's first result is the positions of the nine nearest predictions; the boxes it gathers are those. -/
module

public import proofs.«01_k».proof.Proof.RefScore
public import proofs.«01_k».proof.Proof.Order
public import proofs.«01_k».proof.Proof.Selected

@[expose] public section

set_option maxRecDepth 16384

noncomputable section

namespace Cert.Atss

open Idealize.ShloMosaic Idealize.ShloMosaic.StableHlo Idealize.SL.Sem Cert.ReferenceIdeal Cert.ReferenceIdeal.Value Idealize.ShloMosaic.TcCoe

/-- A sort that carries its axis's positions gives, at each place, where its element came from. -/
theorem argsort_apply {n : ℕ} (x : (⟨3, ![2, 128, n]⟩ : Shape).Idx → EReal) (cmp : EReal → EReal → BitVec 1) (b : Fin 2) (g : Fin 128) (j : Fin n) :
    (Host.sort2 ⟨3, ![2, 128, n]⟩ 2 (fun l r => cmp l.1 r.1) x (fun i => BitVec.ofNat 32 (i 2).val)).2 (ix3 b g j)
      = BitVec.ofNat 32 (sortedFrom (fun a a' => cmp (x (ix3 b g a)) (x (ix3 b g a')) == 1#1) j).val := by
  have along : ∀ (j a : Fin n), Shape.Idx.along (s := ⟨3, ![2, 128, n]⟩) (ix3 b g j) 2 a = ix3 b g a := by
    intro j a
    funext y
    fin_vals y with hy
    · obtain rfl : y = 0 := Fin.ext hy
      rfl
    · obtain rfl : y = 1 := Fin.ext hy
      rfl
    · obtain rfl : y = 2 := Fin.ext hy
      rfl
  unfold Host.sort2
  rw [dif_pos (show 2 < (⟨3, ![2, 128, n]⟩ : Shape).rank from Nat.lt_succ_self 2)]
  refine (congrArg (fun y : (⟨3, ![2, 128, n]⟩ : Shape).Idx => BitVec.ofNat 32 (y 2).val) (along j _)).trans ?_
  refine congrArg (fun F => BitVec.ofNat 32 (sortedFrom F j).val) ?_
  funext a a'
  exact congrArg₂ (fun u v => cmp (x u) (x v) == 1#1) (along j a) (along j a')

/-- A small index is not negative: nothing is added to it, and it is read as it is. -/
theorem index_read (e : ℕ) (he : e < 100000) :
    min (Scalar.select (IntOp.cmpi .slt (BitVec.ofNat 32 e) 0#32) (IntOp.addi (BitVec.ofNat 32 e) 100000#32) (BitVec.ofNat 32 e)).toInt.toNat 99999 = e := by
  have ht : (BitVec.ofNat 32 e).toInt = (e : ℤ) := by
    rw [BitVec.toInt_eq_toNat_of_lt (by rw [BitVec.toNat_ofNat]; omega), BitVec.toNat_ofNat, Nat.mod_eq_of_lt (by omega)]
  have hc : IntOp.cmpi .slt (BitVec.ofNat 32 e) 0#32 = 0#1 := by
    show BitVec.ofBool ((BitVec.ofNat 32 e).slt 0#32) = 0#1
    have : (BitVec.ofNat 32 e).slt 0#32 = false := by
      rw [BitVec.slt, ht]
      simp
    rw [this]
    rfl
  rw [hc]
  show min (BitVec.ofNat 32 e).toInt.toNat 99999 = e
  rw [ht]
  omega

/-- The greater of two negated values is that of the less. -/
theorem greater_neg (x y : EReal) : (FloatOps.cmpfTotal (F := Ideal) (φ := .f32) .gt (-x) (-y) == 1#1) = true ↔ x < y := by
  show (BitVec.ofBool (decide (-y < -x)) == 1#1) = true ↔ x < y
  by_cases h : x < y
  · simp [h]
  · simp [h]

section
variable (V0 : Valuation τ sig (Elt Ideal))

/-- The predictions of batch `b`. -/
def preds (b : Fin 2) (e : Fin 100000) (d : Fin 4) : EReal := (V0 (Proc.devRef .tc main_arg0) : FVec Ideal S2x100000x4 .f32) (ix3 b e d)

/-- The sort's key is the distance, negated. -/
theorem v10_apply (b : Fin 2) (g : Fin 128) (e : Fin 100000) :
    (res_main_v10 V0 : FVec Ideal S2x128x100000 .f32) (ix3 b g e) = -dist (gtBox V0 b g) (preds V0 b) e := by
  pointwise [res_main_v10, res_main_v6]
  rw [Fin.sum_univ_two]
  rfl

/-- The reference's index at place `k` is that of the prediction of rank `k`. -/
theorem indices_apply (b : Fin 2) (g : Fin 128) (k : Fin 9) : ∃ e : Fin 100000,
    rank (key (dist (gtBox V0 b g) (preds V0 b)) Fin.val) e = k.val
      ∧ (res_main_indices V0 : IVec S2x128x9 32) (ix3 b g k) = BitVec.ofNat 32 e.val := by
  let before : Fin 100000 → Fin 100000 → Bool := fun a a' =>
    FloatOps.cmpfTotal (F := Ideal) (φ := .f32) .gt ((res_main_v10 V0 : FVec Ideal S2x128x100000 .f32) (ix3 b g a))
      ((res_main_v10 V0 : FVec Ideal S2x128x100000 .f32) (ix3 b g a')) == 1#1
  have hb : ∀ a a', before a a' = true ↔ dist (gtBox V0 b g) (preds V0 b) a < dist (gtBox V0 b g) (preds V0 b) a' := by
    intro a a'
    show (FloatOps.cmpfTotal (F := Ideal) (φ := .f32) .gt ((res_main_v10 V0 : FVec Ideal S2x128x100000 .f32) (ix3 b g a))
      ((res_main_v10 V0 : FVec Ideal S2x128x100000 .f32) (ix3 b g a')) == 1#1) = true ↔ _
    rw [v10_apply, v10_apply]
    exact greater_neg _ _
  refine ⟨sortedFrom before ⟨k.val, by omega⟩, rank_sortedFrom _ before hb _, ?_⟩
  have h := argsort_apply (n := 100000) (res_main_v10 V0) (FloatOps.cmpfTotal (F := Ideal) (φ := .f32) .gt) b g ⟨k.val, by omega⟩
  refine Eq.trans ?_ h
  unfold res_main_indices Host.topK
  pointwise []
  rfl

/-- The box gathered for place `k` is the prediction its index names. -/
theorem refBox_apply (b : Fin 2) (g : Fin 128) (k : Fin 9) (e : Fin 100000)
    (he : (res_main_indices V0 : IVec S2x128x9 32) (ix3 b g k) = BitVec.ofNat 32 e.val) : refBox V0 b g k = preds V0 b e := by
  funext d
  unfold refBox res_main_v17 Host.gather preds
  congr 1
  funext x
  fin_vals x with hx
  · obtain rfl : x = 0 := Fin.ext hx
    refine Fin.ext ?_
    show GatherDims.start _ _ _ 0 + GatherDims.batchCoord _ _ 0 + GatherDims.offCoord _ _ 0 = b.val
    rw [GatherDims.start, dif_neg (by decide), GatherDims.offCoord, dif_neg (by decide), GatherDims.batchCoord, dif_pos (by decide)]
    simp only [Nat.zero_add, Nat.add_zero]
    rfl
  · obtain rfl : x = 1 := Fin.ext hx
    refine Fin.ext ?_
    show GatherDims.start _ _ _ 1 + GatherDims.batchCoord _ _ 1 + GatherDims.offCoord _ _ 1 = e.val
    rw [GatherDims.start, dif_pos (by decide), GatherDims.batchCoord, dif_neg (by decide), GatherDims.offCoord, dif_neg (by decide)]
    have h : GatherDims.siIdx gather_S2x100000x4_S2x128x9x1_S2x128x9x4_3_1_0_0_1_3_114 (ix4 b g k d)
        ⟨List.idxOf 1 (GatherDims.startIndexMap gather_S2x100000x4_S2x128x9x1_S2x128x9x4_3_1_0_0_1_3_114), by decide⟩ = ix4 b g k 0 := by
      funext y
      fin_vals y with hy
      · obtain rfl : y = 0 := Fin.ext hy
        rfl
      · obtain rfl : y = 1 := Fin.ext hy
        rfl
      · obtain rfl : y = 2 := Fin.ext hy
        rfl
      · obtain rfl : y = 3 := Fin.ext hy
        rfl
    rw [h]
    pointwise []
    rw [he]
    exact index_read e.val e.isLt
  · obtain rfl : x = 2 := Fin.ext hx
    refine Fin.ext ?_
    show GatherDims.start _ _ _ 2 + GatherDims.batchCoord _ _ 2 + GatherDims.offCoord _ _ 2 = d.val
    rw [GatherDims.start, dif_neg (by decide), GatherDims.batchCoord, dif_neg (by decide), GatherDims.offCoord, dif_pos (by decide)]
    simp only [Nat.zero_add]
    rfl

end

end Cert.Atss

end
-- ==== Proof.Equation.lean ====
/- Kernel and reference end with the same numbers and the same scores. -/
module

public import proofs.«01_k».proof.Proof.Values
public import proofs.«01_k».proof.Proof.RefOrder

@[expose] public section

set_option maxRecDepth 16384

noncomputable section

namespace Cert.Atss

open Idealize.ShloMosaic Idealize.ShloMosaic.StableHlo Idealize.SL.Sem Idealize.ShloMosaic.TcCoe

theorem cell (i : Cert.KernelIdeal.S2x128x9.Idx) : ∃ (b : Fin 2) (g : Fin 128) (k : Fin 9), i = ix3 b g k := by
  refine ⟨i 0, i 1, i 2, ?_⟩
  funext a
  fin_vals a with ha
  · obtain rfl : a = 0 := Fin.ext ha
    rfl
  · obtain rfl : a = 1 := Fin.ext ha
    rfl
  · obtain rfl : a = 2 := Fin.ext ha
    rfl

section
variable [Cert.Pre_centres_in_unit_square.Facts]
  (m : (ℓ : Loc Cert.KernelIdeal.nD Cert.KernelIdeal.τ Cert.KernelIdeal.sig) → Buf (Elt Ideal) ℓ) (c : Dev Cert.KernelIdeal.nD)
  (V0 : Valuation Cert.ReferenceIdeal.τ Cert.ReferenceIdeal.sig (Elt Ideal))
  (X : FVec Ideal Cert.KernelIdeal.S2x100000x4 .f32) (hX : m (c.tc.loc Cert.KernelIdeal.main_arg0) = X)
  (hX' : V0 (Proc.devRef .tc Cert.ReferenceIdeal.main_arg0) = X)
  (Y : FVec Ideal Cert.KernelIdeal.S2x128x4 .f32) (hY : m (c.tc.loc Cert.KernelIdeal.main_arg1) = Y)
  (hY' : V0 (Proc.devRef .tc Cert.ReferenceIdeal.main_arg1) = Y)
  (h : Cert.Pre_centres_in_unit_square.fn X Y = fun _ => 1#1)

include hX' in
theorem preds_eq (b : Fin 2) : preds V0 b = listed X b := by
  rw [← hX']
  rfl

include hY' in
theorem gtBox_eq (b : Fin 2) (g : Fin 128) : gtBox V0 b g = boxed Y b g := by
  rw [← hY']
  rfl

include hX hX' hY hY' h

theorem numbers_equal : (Cert.ReferenceIdeal.Value.res_main_indices V0 : IVec Cert.KernelIdeal.S2x128x9 32)
    = extractStridedSlice Cert.KernelIdeal.S2x128x9 ![0, 0, 0] (allNumbers m c : Vec Ideal Cert.KernelIdeal.S2x128x16 .i32)
        Cert.KernelIdeal.Gen.slices_S2x128x16_S2x128x9_0_0_0 := by
  funext i
  obtain ⟨b, g, k, rfl⟩ := cell i
  obtain ⟨e, he, hi⟩ := indices_apply V0 b g k
  rw [preds_eq V0 X hX' b, gtBox_eq V0 Y hY' b g] at he
  exact hi.trans (first_result m c X hX Y hY h b g k e he).symm

theorem scores_equal (b : Fin 2) (g : Fin 128) (k : Fin 9) : score (gtBox V0 b g) (refBox V0 b g) k
    = extractStridedSlice Cert.KernelIdeal.S2x128x9 ![0, 0, 0] (allScores m c : Vec Ideal Cert.KernelIdeal.S2x128x16 .f32)
        Cert.KernelIdeal.Gen.slices_S2x128x16_S2x128x9_0_0_0 (ix3 b g k) := by
  choose e he hi using fun k => indices_apply V0 b g k
  have hr : refBox V0 b g = fun k => listed X b (e k) := by
    funext k
    rw [refBox_apply V0 b g k (e k) (hi k), preds_eq V0 X hX' b]
  rw [preds_eq V0 X hX' b, gtBox_eq V0 Y hY' b g] at he
  rw [hr, gtBox_eq V0 Y hY' b g]
  exact (second_result m c X hX Y hY h b g e he k).symm

end

/-- The claim that kernel and reference agree. -/
theorem agree : @Cert.algebraic_KernelIdeal_ReferenceIdeal_pre_centres_in_unit_square Cert.KernelIdeal.Gen.facts Cert.ReferenceIdeal.Gen.facts preFacts := by
  haveI := preFacts
  intro m g m' g' hpre hagree
  refine ⟨_, _, kernel_run m g, (θ_run Cert.ReferenceIdeal.defs _ _).mono (fun r h c => ⟨(h c).1.trans ?_, ?_, (h c).2.2.1, (h c).2.2.2⟩) (ref_run m' g')⟩
  · funext i
    obtain ⟨b, g, k, rfl⟩ := cell i
    exact ((h c).2.1 b g k).trans (scores_equal m c (launchContents m' c) _ rfl (hagree c).1 _ rfl (hagree c).2 (hpre c) b g k)
  · exact numbers_equal m c (launchContents m' c) _ rfl (hagree c).1 _ rfl (hagree c).2 (hpre c)

end Cert.Atss

end
-- ==== Proof.lean ====
module

public import proofs.«01_k».proof.Defs
public import proofs.«01_k».proof.Proof.Gen.Kernel
public import proofs.«01_k».proof.Proof.Gen.Kernel.Frame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference runs, leaves its arguments, and ends with every counter at zero. -/
theorem reference_frame : @Cert.quiescent_ReferenceIdeal Cert.ReferenceIdeal.Gen.facts := fun m ρ _ =>
  (θ_run Cert.ReferenceIdeal.defs _ _).mono (fun r h => ⟨fun c => ⟨(h c).2.2.1, (h c).2.2.2⟩, sem_eq_zero_of_no_sems (by decide) r.2⟩)
    (Cert.ReferenceIdeal.Value.run m ρ)

theorem claim : Cert.Claim := ⟨Cert.Kernel.Gen.facts, Cert.KernelIdeal.Gen.facts, Cert.ReferenceIdeal.Gen.facts, Cert.Atss.preFacts,
  fun m g _ => Cert.Kernel.Gen.frame m g, fun m g _ => Cert.KernelIdeal.Gen.frame m g, fun m g _ => Cert.KernelIdeal.Gen.frame m g,
  reference_frame, fun m g _ => reference_frame m g trivial, trivial, Cert.Atss.agree⟩

end Cert.Proof

end
